-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x6144 : Shape := ⟨2, ![32768, 6144]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S1x1536 : Shape := ⟨2, ![1, 1536]⟩
abbrev S32768x1024 : Shape := ⟨2, ![32768, 1024]⟩
abbrev S128x1024 : Shape := ⟨2, ![128, 1024]⟩
abbrev S128x1536 : Shape := ⟨2, ![128, 1536]⟩
abbrev S128x128 : Shape := ⟨2, ![128, 128]⟩
abbrev S136x1536 : Shape := ⟨2, ![136, 1536]⟩
abbrev S16x128x64 : Shape := ⟨3, ![16, 128, 64]⟩
abbrev S8x1536 : Shape := ⟨2, ![8, 1536]⟩
abbrev S128x64 : Shape := ⟨2, ![128, 64]⟩
abbrev S128x1 : Shape := ⟨2, ![128, 1]⟩
abbrev S1x128x64 : Shape := ⟨3, ![1, 128, 64]⟩
abbrev S1x1 : Shape := ⟨2, ![1, 1]⟩
abbrev S1x64 : Shape := ⟨2, ![1, 64]⟩
abbrev S128x512 : Shape := ⟨2, ![128, 512]⟩

abbrev nBuf : Space → Nat
  | .hbm => 23
  | .vmem => 17
  | .smem => 0
  | _ => 0

abbrev bufTy : (tb : Table) → Fin (tcTables nBuf tb) → BufTy
  | .hbm, ⟨0, _⟩ => ⟨S32768x6144, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S16, .f32⟩
  | .hbm, ⟨12, _⟩ => ⟨S16, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x1536, .f32⟩
  | .hbm, ⟨21, _⟩ => ⟨S1x1024, .f32⟩
  | .hbm, ⟨22, _⟩ => ⟨S32768x1024, .bf16⟩
  | .local _ .vmem, ⟨0, _⟩ => ⟨S128x1024, .f32⟩
  | .local _ .vmem, ⟨1, _⟩ => ⟨S128x1024, .f32⟩
  | .local _ .vmem, ⟨2, _⟩ => ⟨S128x1536, .f32⟩
  | .local _ .vmem, ⟨3, _⟩ => ⟨S128x1536, .f32⟩
  | .local _ .vmem, ⟨4, _⟩ => ⟨S128x128, .f32⟩
  | .local _ .vmem, ⟨5, _⟩ => ⟨S128x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S136x1536, .f32⟩
  | .local _ .vmem, ⟨15, _⟩ => ⟨S16x128x64, .f32⟩
  | .local _ .vmem, ⟨16, _⟩ => ⟨S128x1024, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c45_i32 : BitVec 32 := 45#32
  let c0_i32 : BitVec 32 := 0#32
  ![v1.toNat, c45_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32768x6144 : Shape := ⟨2, ![32768, 6144]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x1536 : Shape := ⟨2, ![32768, 1536]⟩
abbrev S2x16384x1536 : Shape := ⟨3, ![2, 16384, 1536]⟩
abbrev S32768x16 : Shape := ⟨2, ![32768, 16]⟩
abbrev S2x16384x16 : Shape := ⟨3, ![2, 16384, 16]⟩
abbrev S_ : Shape := ⟨0, ![]⟩
abbrev S2x16387x1536 : Shape := ⟨3, ![2, 16387, 1536]⟩
abbrev S1x1536 : Shape := ⟨2, ![1, 1536]⟩
abbrev S1x1x1536 : Shape := ⟨3, ![1, 1, 1536]⟩
abbrev S2x16384x1024 : Shape := ⟨3, ![2, 16384, 1024]⟩
abbrev S2x16384x256 : Shape := ⟨3, ![2, 16384, 256]⟩
abbrev S2x128x128x2x8x64 : Shape := ⟨6, ![2, 128, 128, 2, 8, 64]⟩
abbrev S2x128x128x2x128 : Shape := ⟨5, ![2, 128, 128, 2, 128]⟩
abbrev S1x1x16 : Shape := ⟨3, ![1, 1, 16]⟩
abbrev S2x128x128x2x8 : Shape := ⟨5, ![2, 128, 128, 2, 8]⟩
abbrev S2x8 : Shape := ⟨2, ![2, 8]⟩
abbrev S1x1x1x2x8 : Shape := ⟨5, ![1, 1, 1, 2, 8]⟩
abbrev S2x128x2x8x128 : Shape := ⟨5, ![2, 128, 2, 8, 128]⟩
abbrev S2x128x128x2x8x1 : Shape := ⟨6, ![2, 128, 128, 2, 8, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x128x2x8x128x1 : Shape := ⟨6, ![2, 128, 2, 8, 128, 1]⟩
abbrev S2x128x2x8x1x128 : Shape := ⟨6, ![2, 128, 2, 8, 1, 128]⟩
abbrev S2x128x2x8x128x128 : Shape := ⟨6, ![2, 128, 2, 8, 128, 128]⟩
abbrev S2x128x2x128x128 : Shape := ⟨5, ![2, 128, 2, 128, 128]⟩
abbrev S2x128x2x1x128x128 : Shape := ⟨6, ![2, 128, 2, 1, 128, 128]⟩
abbrev S2x128x2x8x64x128 : Shape := ⟨6, ![2, 128, 2, 8, 64, 128]⟩
abbrev S2x128x2x8x1 : Shape := ⟨5, ![2, 128, 2, 8, 1]⟩
abbrev S2x128x2x8 : Shape := ⟨4, ![2, 128, 2, 8]⟩
abbrev S2x1x2x8x64x128 : Shape := ⟨6, ![2, 1, 2, 8, 64, 128]⟩
abbrev S2x2x8x64x128 : Shape := ⟨5, ![2, 2, 8, 64, 128]⟩
abbrev S2x8x1 : Shape := ⟨3, ![2, 8, 1]⟩
abbrev S1x1x1x2x8x1 : Shape := ⟨6, ![1, 1, 1, 2, 8, 1]⟩
abbrev S128x2x2x8x64x128 : Shape := ⟨6, ![128, 2, 2, 8, 64, 128]⟩
abbrev S128x2x2x8 : Shape := ⟨4, ![128, 2, 2, 8]⟩
abbrev S128x2x128x2x128 : Shape := ⟨5, ![128, 2, 128, 2, 128]⟩
abbrev S128x2x128x2x8 : Shape := ⟨5, ![128, 2, 128, 2, 8]⟩
abbrev S128x2x128x2x8x64 : Shape := ⟨6, ![128, 2, 128, 2, 8, 64]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S1x2x128x2x128 : Shape := ⟨5, ![1, 2, 128, 2, 128]⟩
abbrev S2x128x2x128 : Shape := ⟨4, ![2, 128, 2, 128]⟩
abbrev S1x2x128x2x8 : Shape := ⟨5, ![1, 2, 128, 2, 8]⟩
abbrev S1x2x128x2x8x64 : Shape := ⟨6, ![1, 2, 128, 2, 8, 64]⟩
abbrev S2x128x2x8x64 : Shape := ⟨5, ![2, 128, 2, 8, 64]⟩
abbrev S2x2x8x1x1 : Shape := ⟨5, ![2, 2, 8, 1, 1]⟩
abbrev S32768x1024 : Shape := ⟨2, ![32768, 1024]⟩
abbrev S2x16384x2x512 : Shape := ⟨4, ![2, 16384, 2, 512]⟩
abbrev S2x16384x2 : Shape := ⟨3, ![2, 16384, 2]⟩
abbrev S2x16384x2x1 : Shape := ⟨4, ![2, 16384, 2, 1]⟩
abbrev S1x1x1024 : Shape := ⟨3, ![1, 1, 1024]⟩

abbrev nBuf : Space → Nat
  | .hbm => 251
  | .vmem => 0
  | .smem => 0
  | _ => 0

abbrev hbmTy0_0 (i : Nat) : BufTy := match i % 128 with
  | 0 => ⟨S32768x6144, .f32⟩
  | 1 => ⟨S4x1536, .f32⟩
  | 2 => ⟨S1536, .f32⟩
  | 3 => ⟨S16, .f32⟩
  | 4 => ⟨S16, .f32⟩
  | 5 => ⟨S16, .f32⟩
  | 6 => ⟨S1024, .f32⟩
  | 7 => ⟨S32768x1536, .f32⟩
  | 8 => ⟨S2x16384x1536, .f32⟩
  | 9 => ⟨S32768x16, .f32⟩
  | 10 => ⟨S2x16384x16, .f32⟩
  | 11 => ⟨S_, .i32⟩
  | 12 => ⟨S_, .f32⟩
  | 13 => ⟨S2x16387x1536, .f32⟩
  | 14 => ⟨S2x16384x1536, .f32⟩
  | 15 => ⟨S1x1536, .f32⟩
  | 16 => ⟨S1536, .f32⟩
  | 17 => ⟨S1x1x1536, .f32⟩
  | 18 => ⟨S2x16384x1536, .f32⟩
  | 19 => ⟨S2x16384x1536, .f32⟩
  | 20 => ⟨S_, .f32⟩
  | 21 => ⟨S2x16384x1536, .f32⟩
  | 22 => ⟨S2x16384x1536, .f32⟩
  | 23 => ⟨S2x16384x1536, .f32⟩
  | 24 => ⟨S1x1536, .f32⟩
  | 25 => ⟨S1536, .f32⟩
  | 26 => ⟨S1x1x1536, .f32⟩
  | 27 => ⟨S2x16384x1536, .f32⟩
  | 28 => ⟨S2x16384x1536, .f32⟩
  | 29 => ⟨S2x16384x1536, .f32⟩
  | 30 => ⟨S2x16384x1536, .f32⟩
  | 31 => ⟨S1x1536, .f32⟩
  | 32 => ⟨S1536, .f32⟩
  | 33 => ⟨S1x1x1536, .f32⟩
  | 34 => ⟨S2x16384x1536, .f32⟩
  | 35 => ⟨S2x16384x1536, .f32⟩
  | 36 => ⟨S2x16384x1536, .f32⟩
  | 37 => ⟨S2x16384x1536, .f32⟩
  | 38 => ⟨S1x1536, .f32⟩
  | 39 => ⟨S1536, .f32⟩
  | 40 => ⟨S1x1x1536, .f32⟩
  | 41 => ⟨S2x16384x1536, .f32⟩
  | 42 => ⟨S2x16384x1536, .f32⟩
  | 43 => ⟨S2x16384x1536, .f32⟩
  | 44 => ⟨S1x1x1536, .f32⟩
  | 45 => ⟨S2x16384x1536, .f32⟩
  | 46 => ⟨S2x16384x1536, .f32⟩
  | 47 => ⟨S2x16384x1536, .f32⟩
  | 48 => ⟨S2x16384x1536, .f32⟩
  | 49 => ⟨S_, .f32⟩
  | 50 => ⟨S2x16384x1536, .f32⟩
  | 51 => ⟨S2x16384x1536, .f32⟩
  | 52 => ⟨S_, .f32⟩
  | 53 => ⟨S2x16384x1536, .f32⟩
  | 54 => ⟨S2x16384x1536, .f32⟩
  | 55 => ⟨S2x16384x1536, .f32⟩
  | 56 => ⟨S2x16384x1024, .f32⟩
  | 57 => ⟨S2x16384x256, .f32⟩
  | 58 => ⟨S2x16384x256, .f32⟩
  | 59 => ⟨S2x128x128x2x8x64, .f32⟩
  | 60 => ⟨S2x128x128x2x128, .f32⟩
  | 61 => ⟨S2x128x128x2x128, .f32⟩
  | 62 => ⟨S1x1x16, .f32⟩
  | 63 => ⟨S2x16384x16, .f32⟩
  | 64 => ⟨S2x16384x16, .f32⟩
  | 65 => ⟨S_, .f32⟩
  | 66 => ⟨S2x16384x16, .f32⟩
  | 67 => ⟨S2x16384x16, .f32⟩
  | 68 => ⟨S2x16384x16, .f32⟩
  | 69 => ⟨S2x16384x16, .f32⟩
  | 70 => ⟨S2x16384x16, .i1⟩
  | 71 => ⟨S2x16384x16, .f32⟩
  | 72 => ⟨S2x16384x16, .f32⟩
  | 73 => ⟨S2x16384x16, .f32⟩
  | 74 => ⟨S2x16384x16, .f32⟩
  | 75 => ⟨S2x16384x16, .f32⟩
  | 76 => ⟨S2x16384x16, .f32⟩
  | 77 => ⟨S2x16384x16, .f32⟩
  | 78 => ⟨S2x16384x16, .f32⟩
  | 79 => ⟨S2x128x128x2x8, .f32⟩
  | 80 => ⟨S16, .f32⟩
  | 81 => ⟨S2x8, .f32⟩
  | 82 => ⟨S2x8, .f32⟩
  | 83 => ⟨S1x1x1x2x8, .f32⟩
  | 84 => ⟨S2x128x128x2x8, .f32⟩
  | 85 => ⟨S2x128x128x2x8, .f32⟩
  | 86 => ⟨S2x128x2x8x128, .f32⟩
  | 87 => ⟨S_, .f32⟩
  | 88 => ⟨S_, .f32⟩
  | 89 => ⟨S2x128x2x8x128, .f32⟩
  | 90 => ⟨S2x128x128x2x8x1, .f32⟩
  | 91 => ⟨S2x128x128x2x8x64, .f32⟩
  | 92 => ⟨S2x128x128x2x8x64, .f32⟩
  | 93 => ⟨S128, .i32⟩
  | 94 => ⟨S128x1, .i32⟩
  | 95 => ⟨S1x128, .i32⟩
  | 96 => ⟨S128x128, .i32⟩
  | 97 => ⟨S128x128, .i32⟩
  | 98 => ⟨S128x128, .i1⟩
  | 99 => ⟨S2x128x2x8x128x1, .f32⟩
  | 100 => ⟨S2x128x2x8x1x128, .f32⟩
  | 101 => ⟨S2x128x2x8x128x128, .f32⟩
  | 102 => ⟨S2x128x2x8x128x128, .f32⟩
  | 103 => ⟨S2x128x2x8x128x128, .f32⟩
  | 104 => ⟨S_, .f32⟩
  | 105 => ⟨S_, .f32⟩
  | 106 => ⟨S2x128x2x8x128x128, .i1⟩
  | 107 => ⟨S2x128x2x8x128x128, .f32⟩
  | 108 => ⟨S2x128x2x8x128x128, .f32⟩
  | 109 => ⟨S2x128x2x8x128x128, .f32⟩
  | 110 => ⟨S2x128x2x128x128, .f32⟩
  | 111 => ⟨S2x128x2x1x128x128, .f32⟩
  | 112 => ⟨S2x128x2x8x128x128, .f32⟩
  | 113 => ⟨S2x128x2x8x128x128, .f32⟩
  | 114 => ⟨S2x128x2x8x64x128, .f32⟩
  | 115 => ⟨S2x128x128x2x8x64, .f32⟩
  | 116 => ⟨S2x128x2x8x1, .f32⟩
  | 117 => ⟨S2x128x2x8x128, .f32⟩
  | 118 => ⟨S2x128x2x8x128, .f32⟩
  | 119 => ⟨S2x128x2x8x128, .f32⟩
  | 120 => ⟨S2x128x128x2x8, .f32⟩
  | 121 => ⟨S2x128x128x2x8x1, .f32⟩
  | 122 => ⟨S2x128x128x2x8x64, .f32⟩
  | 123 => ⟨S2x128x128x2x8x64, .f32⟩
  | 124 => ⟨S2x128x2x8x64x128, .f32⟩
  | 125 => ⟨S2x128x2x8x1, .f32⟩
  | 126 => ⟨S2x128x2x8, .f32⟩
  | 127 => ⟨S2x128x2x8, .f32⟩
  | _ => ⟨S32768x6144, .f32⟩

abbrev hbmTy0_1 (i : Nat) : BufTy := match i % 128 with
  | 0 => ⟨S2x1x2x8x64x128, .f32⟩
  | 1 => ⟨S2x2x8x64x128, .f32⟩
  | 2 => ⟨S_, .f32⟩
  | 3 => ⟨S2x2x8x64x128, .f32⟩
  | 4 => ⟨S2x128x2x8x128, .f32⟩
  | 5 => ⟨S2x128x128x2x8, .f32⟩
  | 6 => ⟨S2x8, .f32⟩
  | 7 => ⟨S2x8x1, .f32⟩
  | 8 => ⟨S1x1x1x2x8x1, .f32⟩
  | 9 => ⟨S2x128x128x2x8x64, .f32⟩
  | 10 => ⟨S2x128x128x2x8x64, .f32⟩
  | 11 => ⟨S128x2x2x8x64x128, .f32⟩
  | 12 => ⟨S128x2x2x8, .f32⟩
  | 13 => ⟨S128x2x128x2x128, .f32⟩
  | 14 => ⟨S128x2x128x2x8, .f32⟩
  | 15 => ⟨S128x2x128x2x8x64, .f32⟩
  | 16 => ⟨S128x2x128x2x8x64, .f32⟩
  | 17 => ⟨S_, .f32⟩
  | 18 => ⟨S128x2x128x2x8x64, .f32⟩
  | 19 => ⟨S_, .i32⟩
  | 20 => ⟨S128x2x2x8x64x128, .f32⟩
  | 21 => ⟨S128x2x2x8, .f32⟩
  | 22 => ⟨S128x2x128x2x128, .f32⟩
  | 23 => ⟨S128x2x128x2x8, .f32⟩
  | 24 => ⟨S128x2x128x2x8x64, .f32⟩
  | 25 => ⟨S128x2x128x2x8x64, .f32⟩
  | 26 => ⟨S_, .i32⟩
  | 27 => ⟨S2x2x8x64x128, .f32⟩
  | 28 => ⟨S128x2x128x2x8x64, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1x2x2x8x64x128, .f32⟩
  | 37 => ⟨S2x2x8x64x128, .f32⟩
  | 38 => ⟨S_, .i32⟩
  | 39 => ⟨S_, .i32⟩
  | 40 => ⟨S_, .i32⟩
  | 41 => ⟨S1x2x2x8, .f32⟩
  | 42 => ⟨S2x2x8, .f32⟩
  | 43 => ⟨S_, .i32⟩
  | 44 => ⟨S_, .i32⟩
  | 45 => ⟨S_, .i32⟩
  | 46 => ⟨S_, .i32⟩
  | 47 => ⟨S1x2x128x2x128, .f32⟩
  | 48 => ⟨S2x128x2x128, .f32⟩
  | 49 => ⟨S_, .i32⟩
  | 50 => ⟨S_, .i32⟩
  | 51 => ⟨S_, .i32⟩
  | 52 => ⟨S_, .i32⟩
  | 53 => ⟨S1x2x128x2x8, .f32⟩
  | 54 => ⟨S2x128x2x8, .f32⟩
  | 55 => ⟨S_, .i32⟩
  | 56 => ⟨S_, .i32⟩
  | 57 => ⟨S_, .i32⟩
  | 58 => ⟨S_, .i32⟩
  | 59 => ⟨S_, .i32⟩
  | 60 => ⟨S1x2x128x2x8x64, .f32⟩
  | 61 => ⟨S2x128x2x8x64, .f32⟩
  | 62 => ⟨S_, .i32⟩
  | 63 => ⟨S_, .i32⟩
  | 64 => ⟨S_, .i32⟩
  | 65 => ⟨S_, .i32⟩
  | 66 => ⟨S_, .i32⟩
  | 67 => ⟨S1x2x128x2x8x64, .f32⟩
  | 68 => ⟨S2x128x2x8x64, .f32⟩
  | 69 => ⟨S2x2x8x64x128, .f32⟩
  | 70 => ⟨S2x128x2x8x64, .f32⟩
  | 71 => ⟨S2x128x2x8x1, .f32⟩
  | 72 => ⟨S2x128x2x8x64, .f32⟩
  | 73 => ⟨S2x128x2x8x64, .f32⟩
  | 74 => ⟨S2x2x8x1x1, .f32⟩
  | 75 => ⟨S2x2x8x64x128, .f32⟩
  | 76 => ⟨S2x2x8x64x128, .f32⟩
  | 77 => ⟨S2x2x8x64x128, .f32⟩
  | 78 => ⟨S2x128x2x8x64, .f32⟩
  | 79 => ⟨S2x128x2x8x64, .f32⟩
  | 80 => ⟨S1x2x128x2x8x64, .f32⟩
  | 81 => ⟨S_, .i32⟩
  | 82 => ⟨S_, .i32⟩
  | 83 => ⟨S_, .i32⟩
  | 84 => ⟨S_, .i32⟩
  | 85 => ⟨S_, .i32⟩
  | 86 => ⟨S128x2x128x2x8x64, .f32⟩
  | 87 => ⟨S_, .i32⟩
  | 88 => ⟨S_, .i32⟩
  | 89 => ⟨S2x128x128x2x8x64, .f32⟩
  | 90 => ⟨S32768x1024, .f32⟩
  | 91 => ⟨S2x16384x1024, .f32⟩
  | 92 => ⟨S2x16384x1024, .f32⟩
  | 93 => ⟨S2x16384x1024, .f32⟩
  | 94 => ⟨S2x16384x1024, .f32⟩
  | 95 => ⟨S_, .f32⟩
  | 96 => ⟨S2x16384x1024, .f32⟩
  | 97 => ⟨S2x16384x1024, .f32⟩
  | 98 => ⟨S_, .f32⟩
  | 99 => ⟨S2x16384x1024, .f32⟩
  | 100 => ⟨S2x16384x1024, .f32⟩
  | 101 => ⟨S2x16384x1024, .f32⟩
  | 102 => ⟨S2x16384x1024, .f32⟩
  | 103 => ⟨S2x16384x2x512, .f32⟩
  | 104 => ⟨S2x16384x2x512, .f32⟩
  | 105 => ⟨S_, .f32⟩
  | 106 => ⟨S2x16384x2, .f32⟩
  | 107 => ⟨S2x16384x2x1, .f32⟩
  | 108 => ⟨S_, .f32⟩
  | 109 => ⟨S2x16384x2x1, .f32⟩
  | 110 => ⟨S2x16384x2x1, .f32⟩
  | 111 => ⟨S_, .f32⟩
  | 112 => ⟨S2x16384x2x1, .f32⟩
  | 113 => ⟨S2x16384x2x1, .f32⟩
  | 114 => ⟨S2x16384x2x1, .f32⟩
  | 115 => ⟨S2x16384x2x512, .f32⟩
  | 116 => ⟨S2x16384x2x512, .f32⟩
  | 117 => ⟨S2x16384x1024, .f32⟩
  | 118 => ⟨S1x1x1024, .f32⟩
  | 119 => ⟨S2x16384x1024, .f32⟩
  | 120 => ⟨S2x16384x1024, .f32⟩
  | 121 => ⟨S32768x1024, .f32⟩
  | 122 => ⟨S32768x1024, .bf16⟩
  | _ => ⟨S32768x6144, .f32⟩

abbrev hbmTy (i : Nat) : BufTy := match i / 128 with
  | 0 => hbmTy0_0 i
  | 1 => hbmTy0_1 i
  | _ => ⟨S32768x6144, .f32⟩

abbrev bufTy : (tb : Table) → Fin (tcTables nBuf tb) → BufTy
  | .hbm, ⟨i, _⟩ => hbmTy i
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call3_call0_cst : Ref sig .tc := ⟨.hbm, 87, rfl⟩
abbrev main_call3_call0_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_0 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_1 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_2 : Ref sig .tc := ⟨.hbm, 145, rfl⟩
abbrev main_v107 : Ref sig .tc := ⟨.hbm, 146, rfl⟩
abbrev main_c_3 : Ref sig .tc := ⟨.hbm, 147, rfl⟩
abbrev main_v108_0 : Ref sig .tc := ⟨.hbm, 148, rfl⟩
abbrev main_v108_1 : Ref sig .tc := ⟨.hbm, 149, rfl⟩
abbrev main_v108_2 : Ref sig .tc := ⟨.hbm, 150, rfl⟩
abbrev main_v108_3 : Ref sig .tc := ⟨.hbm, 151, rfl⟩
abbrev main_v108_4 : Ref sig .tc := ⟨.hbm, 152, rfl⟩
abbrev main_v108_5 : Ref sig .tc := ⟨.hbm, 153, rfl⟩
abbrev main_v108_6 : Ref sig .tc := ⟨.hbm, 154, rfl⟩
abbrev main_v108_7 : Ref sig .tc := ⟨.hbm, 155, rfl⟩
abbrev main_v108_8 : Ref sig .tc := ⟨.hbm, 156, rfl⟩
abbrev main_while0c_c_15 : Ref sig .tc := ⟨.hbm, 157, rfl⟩
abbrev main_while0c_v132 : Ref sig .tc := ⟨.hbm, 158, rfl⟩
abbrev main_while0b_call5_c : Ref sig .tc := ⟨.hbm, 159, rfl⟩
abbrev main_while0b_call5_c_0 : Ref sig .tc := ⟨.hbm, 160, rfl⟩
abbrev main_while0b_call5_c_1 : Ref sig .tc := ⟨.hbm, 161, rfl⟩
abbrev main_while0b_call5_c_2 : Ref sig .tc := ⟨.hbm, 162, rfl⟩
abbrev main_while0b_call5_c_3 : Ref sig .tc := ⟨.hbm, 163, rfl⟩
abbrev main_while0b_call5_v0 : Ref sig .tc := ⟨.hbm, 164, rfl⟩
abbrev main_while0b_v132 : Ref sig .tc := ⟨.hbm, 165, rfl⟩
abbrev main_while0b_call6_c : Ref sig .tc := ⟨.hbm, 166, rfl⟩
abbrev main_while0b_call6_c_0 : Ref sig .tc := ⟨.hbm, 167, rfl⟩
abbrev main_while0b_call6_c_1 : Ref sig .tc := ⟨.hbm, 168, rfl⟩
abbrev main_while0b_call6_v0 : Ref sig .tc := ⟨.hbm, 169, rfl⟩
abbrev main_while0b_v133 : Ref sig .tc := ⟨.hbm, 170, rfl⟩
abbrev main_while0b_call7_c : Ref sig .tc := ⟨.hbm, 171, rfl⟩
abbrev main_while0b_call7_c_0 : Ref sig .tc := ⟨.hbm, 172, rfl⟩
abbrev main_while0b_call7_c_1 : Ref sig .tc := ⟨.hbm, 173, rfl⟩
abbrev main_while0b_call7_c_2 : Ref sig .tc := ⟨.hbm, 174, rfl⟩
abbrev main_while0b_call7_v0 : Ref sig .tc := ⟨.hbm, 175, rfl⟩
abbrev main_while0b_v134 : Ref sig .tc := ⟨.hbm, 176, rfl⟩
abbrev main_while0b_call8_c : Ref sig .tc := ⟨.hbm, 177, rfl⟩
abbrev main_while0b_call8_c_0 : Ref sig .tc := ⟨.hbm, 178, rfl⟩
abbrev main_while0b_call8_c_1 : Ref sig .tc := ⟨.hbm, 179, rfl⟩
abbrev main_while0b_call8_c_2 : Ref sig .tc := ⟨.hbm, 180, rfl⟩
abbrev main_while0b_call8_v0 : Ref sig .tc := ⟨.hbm, 181, rfl⟩
abbrev main_while0b_v135 : Ref sig .tc := ⟨.hbm, 182, rfl⟩
abbrev main_while0b_call9_c : Ref sig .tc := ⟨.hbm, 183, rfl⟩
abbrev main_while0b_call9_c_0 : Ref sig .tc := ⟨.hbm, 184, rfl⟩
abbrev main_while0b_call9_c_1 : Ref sig .tc := ⟨.hbm, 185, rfl⟩
abbrev main_while0b_call9_c_2 : Ref sig .tc := ⟨.hbm, 186, rfl⟩
abbrev main_while0b_call9_c_3 : Ref sig .tc := ⟨.hbm, 187, rfl⟩
abbrev main_while0b_call9_v0 : Ref sig .tc := ⟨.hbm, 188, rfl⟩
abbrev main_while0b_v136 : Ref sig .tc := ⟨.hbm, 189, rfl⟩
abbrev main_while0b_call10_c : Ref sig .tc := ⟨.hbm, 190, rfl⟩
abbrev main_while0b_call10_c_0 : Ref sig .tc := ⟨.hbm, 191, rfl⟩
abbrev main_while0b_call10_c_1 : Ref sig .tc := ⟨.hbm, 192, rfl⟩
abbrev main_while0b_call10_c_2 : Ref sig .tc := ⟨.hbm, 193, rfl⟩
abbrev main_while0b_call10_c_3 : Ref sig .tc := ⟨.hbm, 194, rfl⟩
abbrev main_while0b_call10_v0 : Ref sig .tc := ⟨.hbm, 195, rfl⟩
abbrev main_while0b_v137 : Ref sig .tc := ⟨.hbm, 196, rfl⟩
abbrev main_while0b_v138 : Ref sig .tc := ⟨.hbm, 197, rfl⟩
abbrev main_while0b_v139 : Ref sig .tc := ⟨.hbm, 198, rfl⟩
abbrev main_while0b_v140 : Ref sig .tc := ⟨.hbm, 199, rfl⟩
abbrev main_while0b_v141 : Ref sig .tc := ⟨.hbm, 200, rfl⟩
abbrev main_while0b_v142 : Ref sig .tc := ⟨.hbm, 201, rfl⟩
abbrev main_while0b_v143 : Ref sig .tc := ⟨.hbm, 202, rfl⟩
abbrev main_while0b_v144 : Ref sig .tc := ⟨.hbm, 203, rfl⟩
abbrev main_while0b_v145 : Ref sig .tc := ⟨.hbm, 204, rfl⟩
abbrev main_while0b_v146 : Ref sig .tc := ⟨.hbm, 205, rfl⟩
abbrev main_while0b_v147 : Ref sig .tc := ⟨.hbm, 206, rfl⟩
abbrev main_while0b_v148 : Ref sig .tc := ⟨.hbm, 207, rfl⟩
abbrev main_while0b_call11_v0 : Ref sig .tc := ⟨.hbm, 208, rfl⟩
abbrev main_while0b_call11_c : Ref sig .tc := ⟨.hbm, 209, rfl⟩
abbrev main_while0b_call11_c_0 : Ref sig .tc := ⟨.hbm, 210, rfl⟩
abbrev main_while0b_call11_c_1 : Ref sig .tc := ⟨.hbm, 211, rfl⟩
abbrev main_while0b_call11_c_2 : Ref sig .tc := ⟨.hbm, 212, rfl⟩
abbrev main_while0b_call11_c_3 : Ref sig .tc := ⟨.hbm, 213, rfl⟩
abbrev main_while0b_v149 : Ref sig .tc := ⟨.hbm, 214, rfl⟩
abbrev main_while0b_c_15 : Ref sig .tc := ⟨.hbm, 215, rfl⟩
abbrev main_while0b_v150 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_call12_v0 : Ref sig .tc := ⟨.hbm, 221, rfl⟩
abbrev main_call12_v1 : Ref sig .tc := ⟨.hbm, 222, rfl⟩
abbrev main_call12_cst : Ref sig .tc := ⟨.hbm, 223, rfl⟩
abbrev main_call12_v2 : Ref sig .tc := ⟨.hbm, 224, rfl⟩
abbrev main_call12_v3 : Ref sig .tc := ⟨.hbm, 225, rfl⟩
abbrev main_call12_cst_0 : Ref sig .tc := ⟨.hbm, 226, rfl⟩
abbrev main_call12_v4 : Ref sig .tc := ⟨.hbm, 227, rfl⟩
abbrev main_call12_v5 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_cst_4 : Ref sig .tc := ⟨.hbm, 233, rfl⟩
abbrev main_v117 : Ref sig .tc := ⟨.hbm, 234, rfl⟩
abbrev main_v118 : Ref sig .tc := ⟨.hbm, 235, rfl⟩
abbrev main_cst_5 : Ref sig .tc := ⟨.hbm, 236, rfl⟩
abbrev main_v119 : Ref sig .tc := ⟨.hbm, 237, rfl⟩
abbrev main_v120 : Ref sig .tc := ⟨.hbm, 238, rfl⟩
abbrev main_cst_6 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x2048 : Shape := ⟨2, ![32768, 2048]⟩
abbrev S2048x6144 : Shape := ⟨2, ![2048, 6144]⟩
abbrev S32768x6144 : Shape := ⟨2, ![32768, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x6144, .bf16⟩
  | .hbm, ⟨2, _⟩ => ⟨S32768x6144, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x6144 : Shape := ⟨2, ![2048, 6144]⟩
abbrev S32768x6144 : Shape := ⟨2, ![32768, 6144]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6144, .bf16⟩
  | .hbm, ⟨2, _⟩ => ⟨S2048x6144, .f32⟩
  | .hbm, ⟨3, _⟩ => ⟨S32768x6144, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S32768x2048 : Shape := ⟨2, ![32768, 2048]⟩
abbrev S32768x6144 : Shape := ⟨2, ![32768, 6144]⟩
abbrev S32768x512 : Shape := ⟨2, ![32768, 512]⟩
abbrev S32768x1024 : Shape := ⟨2, ![32768, 1024]⟩
abbrev S32768x256 : Shape := ⟨2, ![32768, 256]⟩
abbrev S512x512 : Shape := ⟨2, ![512, 512]⟩
abbrev S512 : Shape := ⟨1, ![512]⟩
abbrev S2048x8192 : Shape := ⟨2, ![2048, 8192]⟩
abbrev S8192 : Shape := ⟨1, ![8192]⟩
abbrev S512x2048 : Shape := ⟨2, ![512, 2048]⟩
abbrev S1024x2048 : Shape := ⟨2, ![1024, 2048]⟩
abbrev S256x2048 : Shape := ⟨2, ![256, 2048]⟩
abbrev S2048x2048 : Shape := ⟨2, ![2048, 2048]⟩
abbrev S2048 : Shape := ⟨1, ![2048]⟩
abbrev S1x512 : Shape := ⟨2, ![1, 512]⟩
abbrev S4x1x2048 : Shape := ⟨3, ![4, 1, 2048]⟩
abbrev S1x2048 : Shape := ⟨2, ![1, 2048]⟩
abbrev S512x1024 : Shape := ⟨2, ![512, 1024]⟩
abbrev S512x256 : Shape := ⟨2, ![512, 256]⟩
abbrev S2048x256 : Shape := ⟨2, ![2048, 256]⟩
abbrev S4x1x256 : Shape := ⟨3, ![4, 1, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S512x1 : Shape := ⟨2, ![512, 1]⟩

abbrev nBuf : Space → Nat
  | .hbm => 28
  | .vmem => 41
  | .smem => 0
  | _ => 0

abbrev bufTy : (tb : Table) → Fin (tcTables nBuf tb) → BufTy
  | .hbm, ⟨0, _⟩ => ⟨S32768x2048, .f32⟩
  | .hbm, ⟨1, _⟩ => ⟨S32768x6144, .f32⟩
  | .hbm, ⟨2, _⟩ => ⟨S32768x512, .f32⟩
  | .hbm, ⟨3, _⟩ => ⟨S32768x512, .bf16⟩
  | .hbm, ⟨4, _⟩ => ⟨S32768x1024, .bf16⟩
  | .hbm, ⟨5, _⟩ => ⟨S32768x256, .bf16⟩
  | .hbm, ⟨6, _⟩ => ⟨S512x512, .f32⟩
  | .hbm, ⟨7, _⟩ => ⟨S512, .f32⟩
  | .hbm, ⟨8, _⟩ => ⟨S2048x8192, .bf16⟩
  | .hbm, ⟨9, _⟩ => ⟨S8192, .f32⟩
  | .hbm, ⟨10, _⟩ => ⟨S512x2048, .f32⟩
  | .hbm, ⟨11, _⟩ => ⟨S512x2048, .f32⟩
  | .hbm, ⟨12, _⟩ => ⟨S1024x2048, .f32⟩
  | .hbm, ⟨13, _⟩ => ⟨S256x2048, .f32⟩
  | .hbm, ⟨14, _⟩ => ⟨S2048x2048, .f32⟩
  | .hbm, ⟨15, _⟩ => ⟨S2048, .f32⟩
  | .hbm, ⟨16, _⟩ => ⟨S2048, .f32⟩
  | .hbm, ⟨17, _⟩ => ⟨S512x512, .bf16⟩
  | .hbm, ⟨18, _⟩ => ⟨S1x512, .f32⟩
  | .hbm, ⟨19, _⟩ => ⟨S4x1x2048, .f32⟩
  | .hbm, ⟨20, _⟩ => ⟨S512x2048, .bf16⟩
  | .hbm, ⟨21, _⟩ => ⟨S512x2048, .bf16⟩
  | .hbm, ⟨22, _⟩ => ⟨S1024x2048, .bf16⟩
  | .hbm, ⟨23, _⟩ => ⟨S256x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S1x512, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S4x1x256, .f32⟩
  | .local _ .vmem, ⟨23, _⟩ => ⟨S4x1x256, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S1024x256, .bf16⟩
  | .local _ .vmem, ⟨29, _⟩ => ⟨S1024x256, .bf16⟩
  | .local _ .vmem, ⟨30, _⟩ => ⟨S256x256, .bf16⟩
  | .local _ .vmem, ⟨31, _⟩ => ⟨S256x256, .bf16⟩
  | .local _ .vmem, ⟨32, _⟩ => ⟨S256x2048, .bf16⟩
  | .local _ .vmem, ⟨33, _⟩ => ⟨S256x2048, .bf16⟩
  | .local _ .vmem, ⟨34, _⟩ => ⟨S1x2048, .f32⟩
  | .local _ .vmem, ⟨35, _⟩ => ⟨S1x2048, .f32⟩
  | .local _ .vmem, ⟨36, _⟩ => ⟨S512x2048, .f32⟩
  | .local _ .vmem, ⟨37, _⟩ => ⟨S512x2048, .f32⟩
  | .local _ .vmem, ⟨38, _⟩ => ⟨S512x2048, .bf16⟩
  | .local _ .vmem, ⟨39, _⟩ => ⟨S512x512, .bf16⟩
  | .local _ .vmem, ⟨40, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v88 : BitVec 1 := Scalar.cmpi .eq arg1 c7_i32
  let v89 : BitVec 32 := Scalar.extui v88
  let c0_i32_61 : BitVec 32 := 0#32
  let v90 : BitVec 1 := Scalar.cmpi .ne v89 c0_i32_61
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S4x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference3Ideal.lean ====
abbrev S32768x2048 : Shape := ⟨2, ![32768, 2048]⟩
abbrev S32768x6144 : Shape := ⟨2, ![32768, 6144]⟩
abbrev S32768x512 : Shape := ⟨2, ![32768, 512]⟩
abbrev S32768x1024 : Shape := ⟨2, ![32768, 1024]⟩
abbrev S32768x256 : Shape := ⟨2, ![32768, 256]⟩
abbrev S512x512 : Shape := ⟨2, ![512, 512]⟩
abbrev S512 : Shape := ⟨1, ![512]⟩
abbrev S2048x8192 : Shape := ⟨2, ![2048, 8192]⟩
abbrev S8192 : Shape := ⟨1, ![8192]⟩
abbrev S512x2048 : Shape := ⟨2, ![512, 2048]⟩
abbrev S1024x2048 : Shape := ⟨2, ![1024, 2048]⟩
abbrev S256x2048 : Shape := ⟨2, ![256, 2048]⟩
abbrev S2048x2048 : Shape := ⟨2, ![2048, 2048]⟩
abbrev S2048 : Shape := ⟨1, ![2048]⟩
abbrev S1x512 : Shape := ⟨2, ![1, 512]⟩
abbrev S_ : Shape := ⟨0, ![]⟩
abbrev S32768x8192 : Shape := ⟨2, ![32768, 8192]⟩
abbrev S1x8192 : Shape := ⟨2, ![1, 8192]⟩
abbrev S32768x4x2048 : Shape := ⟨3, ![32768, 4, 2048]⟩
abbrev S32768x1x2048 : Shape := ⟨3, ![32768, 1, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 111
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x6144, .f32⟩
  | .hbm, ⟨2, _⟩ => ⟨S32768x512, .f32⟩
  | .hbm, ⟨3, _⟩ => ⟨S32768x512, .bf16⟩
  | .hbm, ⟨4, _⟩ => ⟨S32768x1024, .bf16⟩
  | .hbm, ⟨5, _⟩ => ⟨S32768x256, .bf16⟩
  | .hbm, ⟨6, _⟩ => ⟨S512x512, .f32⟩
  | .hbm, ⟨7, _⟩ => ⟨S512, .f32⟩
  | .hbm, ⟨8, _⟩ => ⟨S2048x8192, .bf16⟩
  | .hbm, ⟨9, _⟩ => ⟨S8192, .f32⟩
  | .hbm, ⟨10, _⟩ => ⟨S512x2048, .f32⟩
  | .hbm, ⟨11, _⟩ => ⟨S512x2048, .f32⟩
  | .hbm, ⟨12, _⟩ => ⟨S1024x2048, .f32⟩
  | .hbm, ⟨13, _⟩ => ⟨S256x2048, .f32⟩
  | .hbm, ⟨14, _⟩ => ⟨S2048x2048, .f32⟩
  | .hbm, ⟨15, _⟩ => ⟨S2048, .f32⟩
  | .hbm, ⟨16, _⟩ => ⟨S2048, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S2048x8192, .f32⟩
  | .hbm, ⟨42, _⟩ => ⟨S32768x8192, .f32⟩
  | .hbm, ⟨43, _⟩ => ⟨S1x8192, .f32⟩
  | .hbm, ⟨44, _⟩ => ⟨S32768x8192, .f32⟩
  | .hbm, ⟨45, _⟩ => ⟨S32768x8192, .f32⟩
  | .hbm, ⟨46, _⟩ => ⟨S32768x8192, .f32⟩
  | .hbm, ⟨47, _⟩ => ⟨S32768x8192, .f32⟩
  | .hbm, ⟨48, _⟩ => ⟨S_, .f32⟩
  | .hbm, ⟨49, _⟩ => ⟨S32768x8192, .f32⟩
  | .hbm, ⟨50, _⟩ => ⟨S32768x8192, .f32⟩
  | .hbm, ⟨51, _⟩ => ⟨S_, .f32⟩
  | .hbm, ⟨52, _⟩ => ⟨S32768x8192, .f32⟩
  | .hbm, ⟨53, _⟩ => ⟨S32768x8192, .f32⟩
  | .hbm, ⟨54, _⟩ => ⟨S32768x4x2048, .f32⟩
  | .hbm, ⟨55, _⟩ => ⟨S32768x1x2048, .f32⟩
  | .hbm, ⟨56, _⟩ => ⟨S32768x2048, .f32⟩
  | .hbm, ⟨57, _⟩ => ⟨S32768x2048, .f32⟩
  | .hbm, ⟨58, _⟩ => ⟨S32768x2048, .f32⟩
  | .hbm, ⟨59, _⟩ => ⟨S32768x1x2048, .f32⟩
  | .hbm, ⟨60, _⟩ => ⟨S32768x2048, .f32⟩
  | .hbm, ⟨61, _⟩ => ⟨S32768x512, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S32768x1x2048, .f32⟩
  | .hbm, ⟨66, _⟩ => ⟨S32768x2048, .f32⟩
  | .hbm, ⟨67, _⟩ => ⟨S32768x1024, .f32⟩
  | .hbm, ⟨68, _⟩ => ⟨S32768x2048, .f32⟩
  | .hbm, ⟨69, _⟩ => ⟨S32768x2048, .f32⟩
  | .hbm, ⟨70, _⟩ => ⟨S32768x2048, .f32⟩
  | .hbm, ⟨71, _⟩ => ⟨S32768x1x2048, .f32⟩
  | .hbm, ⟨72, _⟩ => ⟨S32768x2048, .f32⟩
  | .hbm, ⟨73, _⟩ => ⟨S32768x256, .f32⟩
  | .hbm, ⟨74, _⟩ => ⟨S32768x2048, .f32⟩
  | .hbm, ⟨75, _⟩ => ⟨S32768x2048, .f32⟩
  | .hbm, ⟨76, _⟩ => ⟨S32768x2048, .f32⟩
  | .hbm, ⟨77, _⟩ => ⟨S32768x2048, .f32⟩
  | .hbm, ⟨78, _⟩ => ⟨S_, .f32⟩
  | .hbm, ⟨79, _⟩ => ⟨S32768x2048, .f32⟩
  | .hbm, ⟨80, _⟩ => ⟨S32768x2048, .f32⟩
  | .hbm, ⟨81, _⟩ => ⟨S32768x2048, .f32⟩
  | .hbm, ⟨82, _⟩ => ⟨S_, .f32⟩
  | .hbm, ⟨83, _⟩ => ⟨S32768, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x2048, .f32⟩
  | .hbm, ⟨89, _⟩ => ⟨S32768x2048, .f32⟩
  | .hbm, ⟨90, _⟩ => ⟨S32768x2048, .f32⟩
  | .hbm, ⟨91, _⟩ => ⟨S_, .f32⟩
  | .hbm, ⟨92, _⟩ => ⟨S32768, .f32⟩
  | .hbm, ⟨93, _⟩ => ⟨S32768x1, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S32768x2048, .f32⟩
  | .hbm, ⟨98, _⟩ => ⟨S32768x2048, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S32768x1, .f32⟩
  | .hbm, ⟨103, _⟩ => ⟨S32768x2048, .f32⟩
  | .hbm, ⟨104, _⟩ => ⟨S32768x2048, .f32⟩
  | .hbm, ⟨105, _⟩ => ⟨S1x2048, .f32⟩
  | .hbm, ⟨106, _⟩ => ⟨S32768x2048, .f32⟩
  | .hbm, ⟨107, _⟩ => ⟨S32768x2048, .f32⟩
  | .hbm, ⟨108, _⟩ => ⟨S1x2048, .f32⟩
  | .hbm, ⟨109, _⟩ => ⟨S32768x2048, .f32⟩
  | .hbm, ⟨110, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_4 : Ref sig .tc := ⟨.hbm, 82, rfl⟩
abbrev main_v52 : Ref sig .tc := ⟨.hbm, 83, rfl⟩
abbrev main_v53 : Ref sig .tc := ⟨.hbm, 84, rfl⟩
abbrev main_cst_5 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_6 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_8 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Proof.Merge.IdealRunA.lean ====
/-
  One point of the merge where its accumulator is reset (read over exact arithmetic).
-/
module

public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 20000000 in
noncomputable def kernelRun0_A (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole) (hc0 : cond0_0 i) (hc1 : ¬cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32) :
    Σ' (L20 : List (View.Piece (Elt F) S512x2048 .f32)), Σ' (LS0 : List (View.Piece (Elt F) S512x2048 .bf16)), Σ' (LS1 : List (View.Piece (Elt F) S512x512 .bf16)), { LS2 : List (View.Piece (Elt F) S512x2048 .f32) //
      ∀ (xi20 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2)) -∗ K ⟨⟩))
          ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], ?_, ?_, ?_, fun xi20 E K => ?run⟩
  case run =>
    simp only [cc0__merge_kernel_eq_skeleton]; unfold cc0__merge_kernel_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]; · iexists _; iexact HS0
    isplitl [HS1]; · iexists _; iexact HS1
    iexists _; iexact HS2

end Cert.Kernel3Ideal.Gen

end
-- ==== Proof.Merge.IdealRunB.lean ====
/-
  One point of the merge between (read over exact arithmetic).
-/
module

public import proofs.«01_k».proof.Proof.Merge.IdealRunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 20000000 in
noncomputable def kernelRun0_B (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole) (hc0 : ¬cond0_0 i) (hc1 : ¬cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32) (xs0 : Vec F S512x2048 .bf16) (xs1 : Vec F S512x512 .bf16) (xs2 : Vec F S512x2048 .f32) :
    Σ' (L20 : List (View.Piece (Elt F) S512x2048 .f32)), Σ' (LS0 : List (View.Piece (Elt F) S512x2048 .bf16)), Σ' (LS1 : List (View.Piece (Elt F) S512x512 .bf16)), { LS2 : List (View.Piece (Elt F) S512x2048 .f32) //
      ∀ (xi20 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ owns (c : Thread nD τ) arg23 fullShare xs0 ∗ owns (c : Thread nD τ) arg24 fullShare xs1 ∗ owns (c : Thread nD τ) arg25 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare xi20 ∗ owns (c : Thread nD τ) arg23 fullShare xs0 ∗ owns (c : Thread nD τ) arg24 fullShare xs1 ∗ (∃ f, arg25.view.loc (c : Thread nD τ) ↦[arg25.view.set]{fullShare} arg25.view.writes (Elt F) f LS2)) -∗ K ⟨⟩))
          ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], [], [], ?_, fun xi20 E K => ?run⟩
  case run =>
    simp only [cc0__merge_kernel_eq_skeleton]; unfold cc0__merge_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hfs0; obtain rfl := harg24.eq_unread hfs1; obtain rfl := harg25.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [HS0]
    · iexists _; isplitr; · ipureintro; exact harg23.read_unread _
      iexact HS0
    isplitl [HS1]
    · iexists _; isplitr; · ipureintro; exact harg24.read_unread _
      iexact HS1
    iexists _; iexact HS2

end Cert.Kernel3Ideal.Gen

end
-- ==== Proof.Merge.IdealRunC.lean ====
/-
  One point of the merge where the output block is stored (read over exact arithmetic).
-/
module

public import proofs.«01_k».proof.Proof.Merge.IdealRunB

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 20000000 in
noncomputable def kernelRun0_C (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole) (hc0 : ¬cond0_0 i) (hc1 : cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32) (xs0 : Vec F S512x2048 .bf16) (xs1 : Vec F S512x512 .bf16) (xs2 : Vec F S512x2048 .f32) :
    Σ' (L20 : List (View.Piece (Elt F) S512x2048 .f32)), Σ' (LS0 : List (View.Piece (Elt F) S512x2048 .bf16)), Σ' (LS1 : List (View.Piece (Elt F) S512x512 .bf16)), { LS2 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ owns (c : Thread nD τ) arg23 fullShare xs0 ∗ owns (c : Thread nD τ) arg24 fullShare xs1 ∗ owns (c : Thread nD τ) arg25 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ owns (c : Thread nD τ) arg23 fullShare xs0 ∗ owns (c : Thread nD τ) arg24 fullShare xs1 ∗ (∃ f, arg25.view.loc (c : Thread nD τ) ↦[arg25.view.set]{fullShare} arg25.view.writes (Elt F) f LS2)) -∗ K ⟨⟩))
          ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, [], [], ?_, fun E K => ?run⟩
  case run =>
    simp only [cc0__merge_kernel_eq_skeleton]; unfold cc0__merge_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hfs0; obtain rfl := harg24.eq_unread hfs1; obtain rfl := harg25.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [HS0]
    · iexists _; isplitr; · ipureintro; exact harg23.read_unread _
      iexact HS0
    isplitl [HS1]
    · iexists _; isplitr; · ipureintro; exact harg24.read_unread _
      iexact HS1
    iexists _; iexact HS2

end Cert.Kernel3Ideal.Gen

end
-- ==== Proof.Merge.IdealFrame.lean ====
/-
  The run of the whole merge (read over exact arithmetic).
-/
module

public import proofs.«01_k».proof.Proof.Merge.IdealRunC
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole)
  (hc0 : cond0_0 i) (hc1 : ¬cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19

def out0_A_20 : Vec F S512x2048 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).1)

theorem scover0_A_0 (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.1 S512x2048.size (by sl_kernel_rfl) y

def sout0_A_0 : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.1)

theorem scover0_A_1 (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.1 S512x512.size (by sl_kernel_rfl) y

def sout0_A_1 : Vec F S512x512 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.1)

theorem scover0_A_2 (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.2.1 S512x2048.size (by sl_kernel_rfl) y

def sout0_A_2 : Vec F S512x2048 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19).2.2.2.1)

end

section
variable (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole)
  (hc0 : ¬cond0_0 i) (hc1 : ¬cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32) (xs0 : Vec F S512x2048 .bf16) (xs1 : Vec F S512x512 .bf16) (xs2 : Vec F S512x2048 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2

def out0_B_20 : Vec F S512x2048 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).1)

def sout0_B_0 : Vec F S512x2048 .bf16 :=
  (fun _ => xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2)

def sout0_B_1 : Vec F S512x512 .bf16 :=
  (fun _ => xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2)

theorem scover0_B_2 (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1 S512x2048.size (by sl_kernel_rfl) y

def sout0_B_2 : Vec F S512x2048 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1)

end

section
variable (c : Dev nD) (i : grid0.Coords) (arg2 : Memref sig .tc .vmem S512x2048 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S4x1x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1024x256 .bf16) (harg17 : arg17.IsWhole) (arg18 : Memref sig .tc .vmem S256x256 .bf16) (harg18 : arg18.IsWhole) (arg19 : Memref sig .tc .vmem S256x2048 .bf16) (harg19 : arg19.IsWhole) (arg20 : Memref sig .tc .vmem S1x2048 .f32) (harg20 : arg20.IsWhole) (arg21 : Memref sig .tc .vmem S1x2048 .f32) (harg21 : arg21.IsWhole) (arg22 : Memref sig .tc .vmem S512x2048 .f32) (harg22 : arg22.IsWhole) (arg23 : Memref sig .tc .vmem S512x2048 .bf16) (harg23 : arg23.IsWhole) (arg24 : Memref sig .tc .vmem S512x512 .bf16) (harg24 : arg24.IsWhole) (arg25 : Memref sig .tc .vmem S512x2048 .f32) (harg25 : arg25.IsWhole)
  (hc0 : ¬cond0_0 i) (hc1 : cond0_1 i)
    (x0 : Vec F S512x2048 .f32) (x1 : Vec F S512x512 .f32) (x2 : Vec F S512x512 .f32) (x3 : Vec F S512x512 .bf16) (x4 : Vec F S512x1024 .bf16) (x5 : Vec F S512x256 .bf16) (x6 : Vec F S512x512 .bf16) (x7 : Vec F S1x512 .f32) (x8 : Vec F S2048x256 .bf16) (x9 : Vec F S2048x256 .bf16) (x10 : Vec F S2048x256 .bf16) (x11 : Vec F S2048x256 .bf16) (x12 : Vec F S4x1x256 .f32) (x13 : Vec F S512x256 .bf16) (x14 : Vec F S512x256 .bf16) (x15 : Vec F S1024x256 .bf16) (x16 : Vec F S256x256 .bf16) (x17 : Vec F S256x2048 .bf16) (x18 : Vec F S1x2048 .f32) (x19 : Vec F S1x2048 .f32) (xs0 : Vec F S512x2048 .bf16) (xs1 : Vec F S512x512 .bf16) (xs2 : Vec F S512x2048 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2

theorem cover0_C_20 (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).1 S512x2048.size (by sl_kernel_rfl) y

def out0_C_20 : Vec F S512x2048 .f32 :=
  VO0_20.read (Elt F) (VO0_20.writes (Elt F) VO0_20.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).1)

def sout0_C_0 : Vec F S512x2048 .bf16 :=
  (fun _ => xs0) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2)

def sout0_C_1 : Vec F S512x512 .bf16 :=
  (fun _ => xs1) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2)

theorem scover0_C_2 (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1 S512x2048.size (by sl_kernel_rfl) y

def sout0_C_2 : Vec F S512x2048 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xs0 xs1 xs2).2.2.2.1)

end

def outsAt0 (c : Dev nD) : (n : ℕ) → n < cfg0.N → Vec F S512x2048 .f32 × Vec F S512x2048 .bf16 × Vec F S512x512 .bf16 × Vec F S512x2048 .f32
  | 0, hn => (out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) % 8 = 0 then
      if h1 : (n + 1) % 8 = 7 then
        False.elim (by have hN : n + 1 < 512 := lt_of_lt_of_eq hn (show cfg0.N = 512 from N_0); omega)
      else
        (out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
    else
      if h1 : (n + 1) % 8 = 7 then
        (out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
      · rw [PhiS_castSucc m c t, PhiS_pos m c _ _ hz]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexists _; iexact HS0
        isplitl [HS1]; · iexists _; iexact HS1
        isplitl [HS2]; · iexists _; iexact HS2
        iintro ⟨H0, H1, H2, H3, H4, H5, H6, H7, H8, H9, H10, H11, H12, H13, H14, H15, H16, H17, H18, H19, H20, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_1 t).mpr h1)], after0_20]
      by_cases hz : t.val = 0
      · exfalso; have hN : t.val < 512 := lt_of_lt_of_eq t.isLt (show cfg0.N = 512 from N_0); omega
      · rw [PhiS_castSucc m c t, PhiS_pos m c _ _ hz]
        rw [outsAt0_C m c t h0 h1]
        unfold out0_C_20 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, ⟨%e20, H20⟩, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        unfold owns; iexists _; isplitr
        swap; · iexact H20
        ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
      by_cases hz : t.val = 0
      · exfalso; have hN : t.val < 512 := lt_of_lt_of_eq t.isLt (show cfg0.N = 512 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 512 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel3Ideal.Gen

end
-- ==== Proof.Merge.IdealValue.lean ====
/-
  What the run of the merge leaves in its result (read over exact arithmetic).
-/
module

public import proofs.«01_k».proof.Proof.Merge.IdealFrame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed20 (c : Dev nD) (t : Fin cfg0.N) :
    (dats m 0 c).flushed 20 t = (cfg0.win 20).cut (grid0.coords t) ((outsAt0 m c t.val t.isLt).1) := by
  show (cfg0.win 20).cut (grid0.coords t) ((dats m 0 c).after 20 t) = _
  rw [after0_20]

theorem flushed20_A (c : Dev nD) (t : Fin cfg0.N) (h0 : t.val % 8 = 0) (h1 : ¬t.val % 8 = 7) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed20, outsAt0_A m c t h0 h1]

theorem flushed20_B (c : Dev nD) (t : Fin cfg0.N) (h0 : ¬t.val % 8 = 0) (h1 : ¬t.val % 8 = 7) :
    (dats m 0 c).flushed 20 t = (cfg0.win 20).cut (grid0.coords t) (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed20, outsAt0_B m c t h0 h1]

theorem flushed20_C (c : Dev nD) (t : Fin cfg0.N) (h0 : ¬t.val % 8 = 0) (h1 : t.val % 8 = 7) :
    (dats m 0 c).flushed 20 t = (cfg0.win 20).cut (grid0.coords t) (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed20, outsAt0_C m c t h0 h1]

theorem entry20 (c : Dev nD) (i : S32768x2048.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem post20 (r : PUnit × MemSt nD τ sig (Elt F)) (h : Pipeline.FramePost cfgs (dats m) 0 (V m) r) (c : Dev nD) :
    r.2.mem ((c : Thread nD τ).loc main_v10) = (dats m 0 c).arrAt 20 cfg0.N :=
  (h c).1 20

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 11).trans (((dats m 0 c).arrAt_in 11 rfl _).trans ((A_eq m c 11).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem run_blocks : θ_run defs (onTc (τ := τ) (main (F := F))) ⟨m, fun _ => 0, ρ⟩ fun r => ∀ c : Dev nD,
      r.2.mem ((c : Thread nD τ).loc main_v10) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

def scAt0_0 (c : Dev nD) (n : ℕ) (hb : n < cfg0.N) (acc : Vec F S512x2048 .bf16) : Vec F S512x2048 .bf16 :=
  if h0 : n % 8 = 0 then
    if h1 : n % 8 = 7 then
      acc
    else
      sout0_A_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N))
  else
    if h1 : n % 8 = 7 then
      sout0_C_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
    else
      sout0_B_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2

theorem soutsAt0_0_eq (c : Dev nD) (t : Fin cfg0.N) :
    (outsAt0 m c t.val t.isLt).2.1 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.1) 8 (fun n h => scAt0_0 m c n h (VS0_0.read (Elt F) VS0_0.junk)) (scAt0_0 m c)
    (fun n h hn => by
      have hN := lt_of_lt_of_eq h (show cfg0.N = 512 from N_0)
      by_cases h0 : n % 8 = 0 <;> by_cases h1 : n % 8 = 7
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 512 from N_0)
      by_cases h0 : (n + 1) % 8 = 0 <;> by_cases h1 : (n + 1) % 8 = 7
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

def scAt0_1 (c : Dev nD) (n : ℕ) (hb : n < cfg0.N) (acc : Vec F S512x512 .bf16) : Vec F S512x512 .bf16 :=
  if h0 : n % 8 = 0 then
    if h1 : n % 8 = 7 then
      acc
    else
      sout0_A_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N))
  else
    if h1 : n % 8 = 7 then
      sout0_C_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
    else
      sout0_B_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2

theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (8 * (t.val / 8)) (t.val % 8)
      (by have h1 := t.isLt; have h2 := Nat.div_add_mod t.val 8; omega) :=
  Pipeline.eq_accAt_of_mod (fun n h => (outsAt0 m c n h).2.2.1) 8 (fun n h => scAt0_1 m c n h (VS0_1.read (Elt F) VS0_1.junk)) (scAt0_1 m c)
    (fun n h hn => by
      have hN := lt_of_lt_of_eq h (show cfg0.N = 512 from N_0)
      by_cases h0 : n % 8 = 0 <;> by_cases h1 : n % 8 = 7
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 512 from N_0)
      by_cases h0 : (n + 1) % 8 = 0 <;> by_cases h1 : (n + 1) % 8 = 7
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

def scAt0_2 (c : Dev nD) (n : ℕ) (hb : n < cfg0.N) (acc : Vec F S512x2048 .f32) : Vec F S512x2048 .f32 :=
  if h0 : n % 8 = 0 then
    if h1 : n % 8 = 7 then
      acc
    else
      sout0_A_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N))
  else
    if h1 : n % 8 = 7 then
      sout0_C_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
    else
      sout0_B_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc

theorem soutsAt0_2_eq (c : Dev nD) (t : Fin cfg0.N) :
    (outsAt0 m c t.val t.isLt).2.2.2 = Pipeline.accAt (fun n h => scAt0_2 m c n h (VS0_2.read (Elt F) VS0_2.junk)) (scAt0_2 m c) (8 * (t.val / 8)) (t.val % 8)
      (by have h1 := t.isLt; have h2 := Nat.div_add_mod t.val 8; omega) :=
  Pipeline.eq_accAt_of_mod (fun n h => (outsAt0 m c n h).2.2.2) 8 (fun n h => scAt0_2 m c n h (VS0_2.read (Elt F) VS0_2.junk)) (scAt0_2 m c)
    (fun n h hn => by
      have hN := lt_of_lt_of_eq h (show cfg0.N = 512 from N_0)
      by_cases h0 : n % 8 = 0 <;> by_cases h1 : n % 8 = 7
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 512 from N_0)
      by_cases h0 : (n + 1) % 8 = 0 <;> by_cases h1 : (n + 1) % 8 = 7
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

def junk0 : Vec F S512x2048 .f32 × Vec F S512x2048 .bf16 × Vec F S512x512 .bf16 × Vec F S512x2048 .f32 :=
  ((VO0_20.read (Elt F) VO0_20.junk, VS0_0.read (Elt F) VS0_0.junk, VS0_1.read (Elt F) VS0_1.junk, VS0_2.read (Elt F) VS0_2.junk) : Vec F S512x2048 .f32 × Vec F S512x2048 .bf16 × Vec F S512x512 .bf16 × Vec F S512x2048 .f32)

def stAt0 (c : Dev nD) (n : ℕ) (hb : n < cfg0.N) (acc : Vec F S512x2048 .f32 × Vec F S512x2048 .bf16 × Vec F S512x512 .bf16 × Vec F S512x2048 .f32) : Vec F S512x2048 .f32 × Vec F S512x2048 .bf16 × Vec F S512x512 .bf16 × Vec F S512x2048 .f32 :=
  if h0 : n % 8 = 0 then
    if h1 : n % 8 = 7 then
      False.elim (by have hN : n < 512 := lt_of_lt_of_eq hb (show cfg0.N = 512 from N_0); omega)
    else
      (out0_A_20 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)), sout0_A_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)), sout0_A_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)), sout0_A_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)))
  else
    if h1 : n % 8 = 7 then
      (out0_C_20 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_C_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_C_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_C_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2)
    else
      (out0_B_20 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_B_0 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_B_1 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2, sout0_B_2 c (grid0.coords (⟨n, hb⟩ : Fin cfg0.N)) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) (ms0_12 ⟨n, hb⟩) (hs0_12 ⟨n, hb⟩) (ms0_13 ⟨n, hb⟩) (hs0_13 ⟨n, hb⟩) (ms0_14 ⟨n, hb⟩) (hs0_14 ⟨n, hb⟩) (ms0_15 ⟨n, hb⟩) (hs0_15 ⟨n, hb⟩) (ms0_16 ⟨n, hb⟩) (hs0_16 ⟨n, hb⟩) (ms0_17 ⟨n, hb⟩) (hs0_17 ⟨n, hb⟩) (ms0_18 ⟨n, hb⟩) (hs0_18 ⟨n, hb⟩) (ms0_19 ⟨n, hb⟩) (hs0_19 ⟨n, hb⟩) (ms0_20 ⟨n, hb⟩) (hs0_20 ⟨n, hb⟩) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) acc.2.1 acc.2.2.1 acc.2.2.2)

theorem stAt0_A (c : Dev nD) (t : Fin cfg0.N) (acc : Vec F S512x2048 .f32 × Vec F S512x2048 .bf16 × Vec F S512x512 .bf16 × Vec F S512x2048 .f32) (h0 : t.val % 8 = 0) (h1 : ¬t.val % 8 = 7) :
    stAt0 m c t.val t.isLt acc = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) :=
  (dif_pos h0).trans ((dif_neg h1).trans rfl)

theorem stAt0_B (c : Dev nD) (t : Fin cfg0.N) (acc : Vec F S512x2048 .f32 × Vec F S512x2048 .bf16 × Vec F S512x512 .bf16 × Vec F S512x2048 .f32) (h0 : ¬t.val % 8 = 0) (h1 : ¬t.val % 8 = 7) :
    stAt0 m c t.val t.isLt acc = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2) :=
  (dif_neg h0).trans ((dif_neg h1).trans rfl)

theorem stAt0_C (c : Dev nD) (t : Fin cfg0.N) (acc : Vec F S512x2048 .f32 × Vec F S512x2048 .bf16 × Vec F S512x512 .bf16 × Vec F S512x2048 .f32) (h0 : ¬t.val % 8 = 0) (h1 : t.val % 8 = 7) :
    stAt0 m c t.val t.isLt acc = (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) acc.2.1 acc.2.2.1 acc.2.2.2) :=
  (dif_neg h0).trans ((dif_pos h1).trans rfl)

theorem outsAt0_succ (c : Dev nD) (n : ℕ) (hn : n + 1 < cfg0.N) :
    outsAt0 m c (n + 1) hn = stAt0 m c (n + 1) hn (outsAt0 m c n (Nat.lt_of_succ_lt hn)) := rfl

theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 512 from N_0)
  have e := Pipeline.eq_accAt_of_mod (fun n h => outsAt0 m c n h) 512 (fun n h => stAt0 m c n h junk0) (stAt0 m c)
    (fun n h _ => by
      have hN := lt_of_lt_of_eq h (show cfg0.N = 512 from N_0)
      obtain rfl : n = 0 := by omega
      exact outsAt0_zero m c h)
    (fun n h _ => outsAt0_succ m c n h)
    (by decide) n hn (by have := Nat.div_add_mod n 512; omega)
  have hd : n / 512 = 0 := Nat.div_eq_of_lt hN
  have hm : n % 512 = n := Nat.mod_eq_of_lt hN
  simpa only [hd, hm, Nat.mul_zero] using e

theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

abbrev run20Of (i : S32768x2048.Idx) : ℕ := 1 * ((i 0).val / 512 - 0) + 1 * ((i 1).val / 2048 - 0)
set_option backward.proofsInPublic true in
abbrev loc20Of (i : S32768x2048.Idx) : S512x2048.Idx := fun a => match a with
  | ⟨0, _⟩ => ⟨(i 0).val % 512, Nat.mod_lt _ (by decide)⟩
  | ⟨1, _⟩ => ⟨(i 1).val % 2048, Nat.mod_lt _ (by decide)⟩
abbrev pt20Of (i : S32768x2048.Idx) : ℕ := 8 * run20Of i + 7

def G20 (c : Dev nD) : Buf (Elt F) ((c : Thread nD τ).loc main_v10) := fun i =>
  if h : pt20Of i < cfg0.N then
    (Pipeline.accAt (fun n h => stAt0 m c n h junk0) (stAt0 m c) 0 (pt20Of i) (by omega)).1 (loc20Of i)
  else V m c (Pipeline.arrRef spec0 20) i

theorem idx_facts20 : ∀ t : Fin cfg0.N, 0 ≤ win0_20.index t (0 : Fin 2) ∧ win0_20.index t (0 : Fin 2) ≤ 63
    ∧ 0 ≤ win0_20.index t (1 : Fin 2) ∧ win0_20.index t (1 : Fin 2) ≤ 0
    ∧ 1 * (win0_20.index t (0 : Fin 2) - 0) + 1 * (win0_20.index t (1 : Fin 2) - 0) = t.val / 8 :=
  (by decide +kernel : ∀ t : Fin grid0.N, _)

abbrev onto20Pt (q0 : Fin 64) (q1 : Fin 1) : Fin grid0.N :=
  ⟨8 * (1 * q0.val + 1 * q1.val) + 7, lt_of_lt_of_eq (by omega) N_0.symm⟩
theorem idx_onto20 : ∀ (q0 : Fin 64) (q1 : Fin 1), ∃ t : Fin cfg0.N, (cfg0.win 20).flush t = true ∧ win0_20.index t = ![q0.val + 0, q1.val + 0] :=
  fun q0 q1 => ⟨onto20Pt q0 q1, (by decide +kernel : ∀ (q0 : Fin 64) (q1 : Fin 1), win0_20.flush (onto20Pt q0 q1) = true ∧ win0_20.index (onto20Pt q0 q1) = ![q0.val + 0, q1.val + 0]) q0 q1⟩

theorem flushed20_eq (c : Dev nD) (t : Fin cfg0.N) (hf : (cfg0.win 20).flush t = true) :
    (dats m 0 c).flushed 20 t = ((cfg0.win 20).blk t).view.read (Elt F) (G20 m c) := by
  show (cfg0.win 20).cut (grid0.coords t) ((dats m 0 c).after 20 t) = _
  rw [after0_20, outsAt0_sweep]
  have hm : t.val % 8 = 7 := (flush0_20 t).mp hf
  obtain ⟨e0, e1, e2⟩ := idx_facts20 t
  funext y
  have hy0 : (y 0).val < 512 := (y 0).isLt
  have hy1 : (y 1).val < 2048 := (y 1).isLt
  have hb0 : (((cfg0.win 20).blk t).view.emb y 0).val = win0_20.index t (0 : Fin 2) * 512 + 1 * (y 0).val := rfl
  have hb1 : (((cfg0.win 20).blk t).view.emb y 1).val = win0_20.index t (1 : Fin 2) * 2048 + 1 * (y 1).val := rfl
  have hr : run20Of (((cfg0.win 20).blk t).view.emb y) = t.val / 8 := by
    show 1 * ((((cfg0.win 20).blk t).view.emb y 0).val / 512 - 0) + 1 * ((((cfg0.win 20).blk t).view.emb y 1).val / 2048 - 0) = _
    rw [hb0, hb1]
    rw [show (win0_20.index t (0 : Fin 2) * 512 + 1 * (y 0).val) / 512 = win0_20.index t (0 : Fin 2) from by omega]; rw [show (win0_20.index t (1 : Fin 2) * 2048 + 1 * (y 1).val) / 2048 = win0_20.index t (1 : Fin 2) from by omega]
    omega
  have hl : loc20Of (((cfg0.win 20).blk t).view.emb y) = (cfg0.win 20).xinj (grid0.coords t) y := by
    funext a; apply Fin.ext
    match a with
    | ⟨0, _⟩ => show (((cfg0.win 20).blk t).view.emb y 0).val % 512 = (y 0).val; rw [hb0]; omega
    | ⟨1, _⟩ => show (((cfg0.win 20).blk t).view.emb y 1).val % 2048 = (y 1).val; rw [hb1]; omega
  have hp : pt20Of (((cfg0.win 20).blk t).view.emb y) = t.val := by
    show 8 * run20Of (((cfg0.win 20).blk t).view.emb y) + 7 = _
    rw [hr]; have := Nat.div_add_mod t.val 8; omega
  show (Pipeline.accAt (fun n h => stAt0 m c n h junk0) (stAt0 m c) 0 t.val _).1 ((cfg0.win 20).xinj (grid0.coords t) y) = G20 m c (((cfg0.win 20).blk t).view.emb y)
  unfold G20
  rw [dif_pos (by rw [hp]; exact t.isLt), hl, fold0_congr m c _ _ _ _ hp.symm]

theorem mem_blk20 (t : Fin cfg0.N) (i : S32768x2048.Idx) :
    i ∈ ((cfg0.win 20).blk t).view.set ↔ ∀ a : Fin 2, win0_20.index t a * S512x2048.size a ≤ (i a).val ∧ (i a).val < win0_20.index t a * S512x2048.size a + S512x2048.size a := by
  show i ∈ ((View.whole main_v10).slice (win0_20.rect t)).set ↔ _
  rw [View.set_slice_whole, Rect.mem_set_unit]
  exact Iff.rfl

theorem covered_iff20 (i : S32768x2048.Idx) :
    (∃ t : Fin cfg0.N, (cfg0.win 20).flush t = true ∧ i ∈ ((cfg0.win 20).blk t).view.set) ↔ 0 ≤ (i 0).val ∧ (i 0).val < 32768 ∧ 0 ≤ (i 1).val ∧ (i 1).val < 2048 := by
  constructor
  · rintro ⟨t, -, hi⟩
    rw [mem_blk20] at hi
    have b0 : win0_20.index t (0 : Fin 2) * 512 ≤ (i 0).val ∧ (i 0).val < win0_20.index t (0 : Fin 2) * 512 + 512 := hi 0
    have b1 : win0_20.index t (1 : Fin 2) * 2048 ≤ (i 1).val ∧ (i 1).val < win0_20.index t (1 : Fin 2) * 2048 + 2048 := hi 1
    obtain ⟨e0, e1, e2⟩ := idx_facts20 t
    omega
  · intro h
    have hi0 : (i 0).val < 32768 := (i 0).isLt
    have hi1 : (i 1).val < 2048 := (i 1).isLt
    obtain ⟨t, hft, ht⟩ := idx_onto20 ⟨(i 0).val / 512 - 0, by omega⟩ ⟨(i 1).val / 2048 - 0, by omega⟩
    have q0 : win0_20.index t (0 : Fin 2) = (i 0).val / 512 - 0 + 0 := congrFun ht 0
    have q1 : win0_20.index t (1 : Fin 2) = (i 1).val / 2048 - 0 + 0 := congrFun ht 1
    refine ⟨t, hft, ?_⟩
    rw [mem_blk20]
    intro a
    match a with
    | ⟨0, _⟩ => show win0_20.index t (0 : Fin 2) * 512 ≤ (i 0).val ∧ (i 0).val < win0_20.index t (0 : Fin 2) * 512 + 512; omega
    | ⟨1, _⟩ => show win0_20.index t (1 : Fin 2) * 2048 ≤ (i 1).val ∧ (i 1).val < win0_20.index t (1 : Fin 2) * 2048 + 2048; omega

theorem final20 (c : Dev nD) : (dats m 0 c).arrAt 20 cfg0.N = G20 m c :=
  (dats m 0 c).arrAt_eq_of_cover 20 _ (fun t hf => flushed20_eq m c t hf) (fun i => (covered_iff20 i).2 (by
    have h0 : (i 0).val < 32768 := (i 0).isLt; have h1 : (i 1).val < 2048 := (i 1).isLt; omega))

theorem run : θ_run defs (onTc (τ := τ) (main (F := F))) ⟨m, fun _ => 0, ρ⟩ fun r => ∀ c : Dev nD,
      r.2.mem ((c : Thread nD τ).loc main_v10) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(post20 m r h c).trans (final20 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Kernel3Ideal.Value

end
-- ==== Proof.Merge.Spec.lean ====
/-
  The layer's last step in plain mathematics, over the extended reals: the gated linear unit of the S5 branch, the four gated branch
  projections and their sum, the output projection, the scaled residual and the layer normalisation. Both programs are shown to
  compute `out`.
-/
module

public import Idealize.ShloMosaic.Lib.Pipeline.ValueKit
public import Idealize.ShloMosaic.Lib.Pointwise

@[expose] public section

noncomputable section

namespace Cert.Merge

open Idealize.ShloMosaic

/-- The arguments as functions: the layer's input, the projection, the four branches' outputs, the gated linear unit's weights and
    bias, the gates' weights and bias, the four branch projections, the output projection and the normalisation's gain and bias. -/
structure Inp where
  x : Fin 32768 → Fin 2048 → EReal
  h : Fin 32768 → Fin 6144 → EReal
  s5 : Fin 32768 → Fin 512 → EReal
  att : Fin 32768 → Fin 512 → EReal
  ssd : Fin 32768 → Fin 1024 → EReal
  mem : Fin 32768 → Fin 256 → EReal
  wglu : Fin 512 → Fin 512 → EReal
  bglu : Fin 512 → EReal
  wg : Fin 2048 → Fin 8192 → EReal
  bg : Fin 8192 → EReal
  ws5 : Fin 512 → Fin 2048 → EReal
  watt : Fin 512 → Fin 2048 → EReal
  wssd : Fin 1024 → Fin 2048 → EReal
  wmem : Fin 256 → Fin 2048 → EReal
  wout : Fin 2048 → Fin 2048 → EReal
  lng : Fin 2048 → EReal
  lnb : Fin 2048 → EReal

variable (X : Inp)

/-- `1/(1 + e^(-x))`. -/
def sg (x : EReal) : EReal := Ideal.div 1 (1 + Ideal.exp (-x))

/-- The S5 branch: the gated linear unit times `z · sg z`. -/
def y5 (r : Fin 32768) (j : Fin 512) : EReal :=
  X.s5 r j * sg ((∑ k : Fin 512, X.s5 r k * X.wglu k j) + X.bglu j)
    * (X.h r ⟨3072 + j.val, by omega⟩ * sg (X.h r ⟨3072 + j.val, by omega⟩))

/-- The gate of branch `b` at feature `d`. -/
def gate (b : Fin 4) (r : Fin 32768) (d : Fin 2048) : EReal :=
  sg ((∑ k : Fin 2048, X.x r k * X.wg k ⟨2048 * b.val + d.val, by omega⟩) + X.bg ⟨2048 * b.val + d.val, by omega⟩)

/-- The sum of the gated branches. -/
def merged (r : Fin 32768) (d : Fin 2048) : EReal :=
  gate X 0 r d * (∑ k : Fin 512, y5 X r k * X.ws5 k d) + gate X 1 r d * (∑ k : Fin 512, X.att r k * X.watt k d)
    + gate X 2 r d * (∑ k : Fin 1024, X.ssd r k * X.wssd k d) + gate X 3 r d * (∑ k : Fin 256, X.mem r k * X.wmem k d)

/-- The output projection. -/
def proj (r : Fin 32768) (d : Fin 2048) : EReal := ∑ n : Fin 2048, merged X r n * X.wout n d

/-- The layer normalisation over 2048 features of `x` scaled plus `y`. -/
def norm (x y g b : Fin 2048 → EReal) (d : Fin 2048) : EReal :=
  let r := fun e => Ideal.ofBits FTy.f32 0x3FB504F3#32 * x e + y e
  let mu := Ideal.div (∑ e : Fin 2048, r e) (Ideal.ofBits FTy.f32 0x45000000#32)
  let var := Ideal.div (∑ e : Fin 2048, (r e - mu) * (r e - mu)) (Ideal.ofBits FTy.f32 0x45000000#32)
  (r d - mu) * Ideal.rsqrt (var + Ideal.ofBits FTy.f32 0x3727C5AC#32) * g d + b d

/-- The layer's result. -/
def out (r : Fin 32768) (d : Fin 2048) : EReal := norm (X.x r) (proj X r) X.lng X.lnb d

end Cert.Merge

end
-- ==== Proof.Merge.Blocks.lean ====
/-
  The blocks that a point of the merge reads, as the arguments at their rows and columns. Point `t` has row block `t / 8` and
  column block `t % 8`.
-/
module

public import proofs.«01_k».proof.Proof.Gen.Kernel3Ideal.Frame.Runs
public import proofs.«01_k».proof.Proof.Merge.Spec
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ)

/-- The program's arguments, as functions. -/
def XK (c : Dev nD) : Inp where
  x r k := (m ((c : Thread nD τ).loc main_arg0) : S32768x2048.Idx → EReal) (ix2 r k)
  h r k := (m ((c : Thread nD τ).loc main_arg1) : S32768x6144.Idx → EReal) (ix2 r k)
  s5 r k := (m ((c : Thread nD τ).loc main_arg2) : S32768x512.Idx → EReal) (ix2 r k)
  att r k := (m ((c : Thread nD τ).loc main_arg3) : S32768x512.Idx → EReal) (ix2 r k)
  ssd r k := (m ((c : Thread nD τ).loc main_arg4) : S32768x1024.Idx → EReal) (ix2 r k)
  mem r k := (m ((c : Thread nD τ).loc main_arg5) : S32768x256.Idx → EReal) (ix2 r k)
  wglu k j := (m ((c : Thread nD τ).loc main_arg6) : S512x512.Idx → EReal) (ix2 k j)
  bglu j := (m ((c : Thread nD τ).loc main_arg7) : S512.Idx → EReal) (ix1 j)
  wg k j := (m ((c : Thread nD τ).loc main_arg8) : S2048x8192.Idx → EReal) (ix2 k j)
  bg j := (m ((c : Thread nD τ).loc main_arg9) : S8192.Idx → EReal) (ix1 j)
  ws5 k j := (m ((c : Thread nD τ).loc main_arg10) : S512x2048.Idx → EReal) (ix2 k j)
  watt k j := (m ((c : Thread nD τ).loc main_arg11) : S512x2048.Idx → EReal) (ix2 k j)
  wssd k j := (m ((c : Thread nD τ).loc main_arg12) : S1024x2048.Idx → EReal) (ix2 k j)
  wmem k j := (m ((c : Thread nD τ).loc main_arg13) : S256x2048.Idx → EReal) (ix2 k j)
  wout k j := (m ((c : Thread nD τ).loc main_arg14) : S2048x2048.Idx → EReal) (ix2 k j)
  lng j := (m ((c : Thread nD τ).loc main_arg15) : S2048.Idx → EReal) (ix1 j)
  lnb j := (m ((c : Thread nD τ).loc main_arg16) : S2048.Idx → EReal) (ix1 j)

/-- Row `l` of the row block of point `t`. -/
def row (t : Fin cfg0.N) (l : Fin 512) : Fin 32768 :=
  ⟨512 * (t.val / 8) + l.val, by have := lt_of_lt_of_eq t.isLt N_0; omega⟩

/-- Column `q` of the column block of point `t`. -/
def col (t : Fin cfg0.N) (q : Fin 256) : Fin 2048 := ⟨256 * (t.val % 8) + q.val, by omega⟩

/-- The block indices of the inputs by row blocks. -/
theorem idxRow : ∀ t : Fin cfg0.N, win0_0.index t = ![t.val / 8, 0] ∧ win0_1.index t = ![t.val / 8, 0] ∧ win0_2.index t = ![t.val / 8, 6]
    ∧ win0_3.index t = ![t.val / 8, 0] ∧ win0_4.index t = ![t.val / 8, 0] ∧ win0_5.index t = ![t.val / 8, 0] :=
  (by decide +kernel : ∀ t : Fin grid0.N, _)

/-- The block indices of the whole inputs. -/
theorem idxWhole : ∀ t : Fin cfg0.N, win0_6.index t = ![0, 0] ∧ win0_7.index t = ![0, 0] ∧ win0_18.index t = ![0, 0] ∧ win0_19.index t = ![0, 0] :=
  (by decide +kernel : ∀ t : Fin grid0.N, _)

/-- The block indices of the gates' weights and bias. -/
theorem idxGate : ∀ t : Fin cfg0.N, win0_8.index t = ![0, t.val % 8] ∧ win0_9.index t = ![0, 8 + t.val % 8] ∧ win0_10.index t = ![0, 16 + t.val % 8]
    ∧ win0_11.index t = ![0, 24 + t.val % 8] ∧ win0_12.index t = ![0, 0, t.val % 8] :=
  (by decide +kernel : ∀ t : Fin grid0.N, _)

/-- The block indices of the projections' weights. -/
theorem idxCol : ∀ t : Fin cfg0.N, win0_13.index t = ![0, t.val % 8] ∧ win0_14.index t = ![0, t.val % 8] ∧ win0_15.index t = ![0, t.val % 8]
    ∧ win0_16.index t = ![0, t.val % 8] ∧ win0_17.index t = ![t.val % 8, 0] :=
  (by decide +kernel : ∀ t : Fin grid0.N, _)

/-- The block of the input. -/
theorem blk0 (c : Dev nD) (t : Fin cfg0.N) (l : Fin 512) (k : Fin 2048) : (iblk m c 0 t (ix2 l k) : EReal) = (XK m c).x (row t l) k := by
  unfold XK row
  blk_point [iblk, V, idxRow t]

/-- The block of the S5 branch. -/
theorem blk1 (c : Dev nD) (t : Fin cfg0.N) (l : Fin 512) (k : Fin 512) : (iblk m c 1 t (ix2 l k) : EReal) = (XK m c).s5 (row t l) k := by
  unfold XK row
  blk_point [iblk, V, idxRow t]

/-- The block of the attention branch. -/
theorem blk3 (c : Dev nD) (t : Fin cfg0.N) (l : Fin 512) (k : Fin 512) : (iblk m c 3 t (ix2 l k) : EReal) = (XK m c).att (row t l) k := by
  unfold XK row
  blk_point [iblk, V, idxRow t]

/-- The block of the SSD branch. -/
theorem blk4 (c : Dev nD) (t : Fin cfg0.N) (l : Fin 512) (k : Fin 1024) : (iblk m c 4 t (ix2 l k) : EReal) = (XK m c).ssd (row t l) k := by
  unfold XK row
  blk_point [iblk, V, idxRow t]

/-- The block of the memory branch. -/
theorem blk5 (c : Dev nD) (t : Fin cfg0.N) (l : Fin 512) (k : Fin 256) : (iblk m c 5 t (ix2 l k) : EReal) = (XK m c).mem (row t l) k := by
  unfold XK row
  blk_point [iblk, V, idxRow t]

/-- The block of the projection: the 512 columns from 3072. -/
theorem blk2 (c : Dev nD) (t : Fin cfg0.N) (l : Fin 512) (k : Fin 512) : (iblk m c 2 t (ix2 l k) : EReal) = (XK m c).h (row t l) ⟨3072 + k.val, by omega⟩ := by
  unfold XK row
  blk_point [iblk, V, idxRow t]

/-- The block of gate 0's weights. -/
theorem blk8 (c : Dev nD) (t : Fin cfg0.N) (k : Fin 2048) (q : Fin 256) :
    (iblk m c 8 t (ix2 k q) : EReal) = (XK m c).wg k ⟨2048 * (0 : Fin 4).val + (col t q).val, by have := (col t q).isLt; omega⟩ := by
  unfold XK col
  blk_point [iblk, V, idxGate t]

/-- The block of gate 1's weights. -/
theorem blk9 (c : Dev nD) (t : Fin cfg0.N) (k : Fin 2048) (q : Fin 256) :
    (iblk m c 9 t (ix2 k q) : EReal) = (XK m c).wg k ⟨2048 * (1 : Fin 4).val + (col t q).val, by have := (col t q).isLt; omega⟩ := by
  unfold XK col
  blk_point [iblk, V, idxGate t]

/-- The block of gate 2's weights. -/
theorem blk10 (c : Dev nD) (t : Fin cfg0.N) (k : Fin 2048) (q : Fin 256) :
    (iblk m c 10 t (ix2 k q) : EReal) = (XK m c).wg k ⟨2048 * (2 : Fin 4).val + (col t q).val, by have := (col t q).isLt; omega⟩ := by
  unfold XK col
  blk_point [iblk, V, idxGate t]

/-- The block of gate 3's weights. -/
theorem blk11 (c : Dev nD) (t : Fin cfg0.N) (k : Fin 2048) (q : Fin 256) :
    (iblk m c 11 t (ix2 k q) : EReal) = (XK m c).wg k ⟨2048 * (3 : Fin 4).val + (col t q).val, by have := (col t q).isLt; omega⟩ := by
  unfold XK col
  blk_point [iblk, V, idxGate t]

/-- The host’s array for `wglu`. -/
theorem V_wglu (c : Dev nD) : (V m c main_v0 : S512x512.Idx → EReal) = (m ((c : Thread nD τ).loc main_arg6) : S512x512.Idx → EReal) := by
  unfold V
  after_results
  rfl

/-- The host’s array for `bglu`. -/
theorem V_bglu (c : Dev nD) : (V m c main_v1 : S1x512.Idx → EReal) = shapeCast S1x512 (m ((c : Thread nD τ).loc main_arg7) : S512.Idx → EReal) shapeCasts_S512_S1x512 := by
  unfold V
  after_results
  rfl

/-- The host’s array for `bg`. -/
theorem V_bg (c : Dev nD) : (V m c main_v2 : S4x1x2048.Idx → EReal) = shapeCast S4x1x2048 (m ((c : Thread nD τ).loc main_arg9) : S8192.Idx → EReal) shapeCasts_S8192_S4x1x2048 := by
  unfold V
  after_results
  rfl

/-- The host’s array for `ws5`. -/
theorem V_ws5 (c : Dev nD) : (V m c main_v3 : S512x2048.Idx → EReal) = (m ((c : Thread nD τ).loc main_arg10) : S512x2048.Idx → EReal) := by
  unfold V
  after_results
  rfl

/-- The host’s array for `watt`. -/
theorem V_watt (c : Dev nD) : (V m c main_v4 : S512x2048.Idx → EReal) = (m ((c : Thread nD τ).loc main_arg11) : S512x2048.Idx → EReal) := by
  unfold V
  after_results
  rfl

/-- The host’s array for `wssd`. -/
theorem V_wssd (c : Dev nD) : (V m c main_v5 : S1024x2048.Idx → EReal) = (m ((c : Thread nD τ).loc main_arg12) : S1024x2048.Idx → EReal) := by
  unfold V
  after_results
  rfl

/-- The host’s array for `wmem`. -/
theorem V_wmem (c : Dev nD) : (V m c main_v6 : S256x2048.Idx → EReal) = (m ((c : Thread nD τ).loc main_arg13) : S256x2048.Idx → EReal) := by
  unfold V
  after_results
  rfl

/-- The host’s array for `wout`. -/
theorem V_wout (c : Dev nD) : (V m c main_v7 : S2048x2048.Idx → EReal) = (m ((c : Thread nD τ).loc main_arg14) : S2048x2048.Idx → EReal) := by
  unfold V
  after_results
  rfl

/-- The host’s array for `lng`. -/
theorem V_lng (c : Dev nD) : (V m c main_v8 : S1x2048.Idx → EReal) = shapeCast S1x2048 (m ((c : Thread nD τ).loc main_arg15) : S2048.Idx → EReal) shapeCasts_S2048_S1x2048 := by
  unfold V
  after_results
  rfl

/-- The host’s array for `lnb`. -/
theorem V_lnb (c : Dev nD) : (V m c main_v9 : S1x2048.Idx → EReal) = shapeCast S1x2048 (m ((c : Thread nD τ).loc main_arg16) : S2048.Idx → EReal) shapeCasts_S2048_S1x2048 := by
  unfold V
  after_results
  rfl

/-- The block of the gated linear unit's weights. -/
theorem blk6 (c : Dev nD) (t : Fin cfg0.N) (k j : Fin 512) : (iblk m c 6 t (ix2 k j) : EReal) = (XK m c).wglu k j := by
  have e : (iblk m c 6 t (ix2 k j) : EReal) = (V m c main_v0 : S512x512.Idx → EReal) (ix2 k j) := by
    show (V m c main_v0 : S512x512.Idx → EReal) _ = _
    refine congrArg _ ?_
    blk_ext [idxWhole t]
  rw [e, V_wglu]
  unfold XK
  pointwise

/-- The block of the gated linear unit's bias. -/
theorem blk7 (c : Dev nD) (t : Fin cfg0.N) (j : Fin 512) : (iblk m c 7 t (ix2 (0 : Fin 1) j) : EReal) = (XK m c).bglu j := by
  have e : (iblk m c 7 t (ix2 (0 : Fin 1) j) : EReal) = (V m c main_v1 : S1x512.Idx → EReal) (ix2 (0 : Fin 1) j) := by
    show (V m c main_v1 : S1x512.Idx → EReal) _ = _
    refine congrArg _ ?_
    blk_ext [idxWhole t]
  rw [e, V_bglu]
  unfold XK
  pointwise

/-- The block of the gates' bias. -/
theorem blk12 (c : Dev nD) (t : Fin cfg0.N) (b : Fin 4) (q : Fin 256) : (iblk m c 12 t (ix3 b (0 : Fin 1) q) : EReal) = (XK m c).bg ⟨2048 * b.val + (col t q).val, by have := (col t q).isLt; omega⟩ := by
  have e : (iblk m c 12 t (ix3 b (0 : Fin 1) q) : EReal) = (V m c main_v2 : S4x1x2048.Idx → EReal) (ix3 b (0 : Fin 1) (⟨256 * (t.val % 8) + q.val, by omega⟩ : Fin 2048)) := by
    show (V m c main_v2 : S4x1x2048.Idx → EReal) _ = _
    refine congrArg _ ?_
    blk_ext [idxGate t]
  rw [e, V_bg]
  unfold XK col
  simp only [Nat.mul_comm 2048]
  pointwise

/-- The block of the S5 branch's projection. -/
theorem blk13 (c : Dev nD) (t : Fin cfg0.N) (k : Fin 512) (q : Fin 256) : (iblk m c 13 t (ix2 k q) : EReal) = (XK m c).ws5 k (col t q) := by
  have e : (iblk m c 13 t (ix2 k q) : EReal) = (V m c main_v3 : S512x2048.Idx → EReal) (ix2 k (⟨256 * (t.val % 8) + q.val, by omega⟩ : Fin 2048)) := by
    show (V m c main_v3 : S512x2048.Idx → EReal) _ = _
    refine congrArg _ ?_
    blk_ext [idxCol t]
  rw [e, V_ws5]
  unfold XK col
  pointwise

/-- The block of the attention branch's projection. -/
theorem blk14 (c : Dev nD) (t : Fin cfg0.N) (k : Fin 512) (q : Fin 256) : (iblk m c 14 t (ix2 k q) : EReal) = (XK m c).watt k (col t q) := by
  have e : (iblk m c 14 t (ix2 k q) : EReal) = (V m c main_v4 : S512x2048.Idx → EReal) (ix2 k (⟨256 * (t.val % 8) + q.val, by omega⟩ : Fin 2048)) := by
    show (V m c main_v4 : S512x2048.Idx → EReal) _ = _
    refine congrArg _ ?_
    blk_ext [idxCol t]
  rw [e, V_watt]
  unfold XK col
  pointwise

/-- The block of the SSD branch's projection. -/
theorem blk15 (c : Dev nD) (t : Fin cfg0.N) (k : Fin 1024) (q : Fin 256) : (iblk m c 15 t (ix2 k q) : EReal) = (XK m c).wssd k (col t q) := by
  have e : (iblk m c 15 t (ix2 k q) : EReal) = (V m c main_v5 : S1024x2048.Idx → EReal) (ix2 k (⟨256 * (t.val % 8) + q.val, by omega⟩ : Fin 2048)) := by
    show (V m c main_v5 : S1024x2048.Idx → EReal) _ = _
    refine congrArg _ ?_
    blk_ext [idxCol t]
  rw [e, V_wssd]
  unfold XK col
  pointwise

/-- The block of the memory branch's projection. -/
theorem blk16 (c : Dev nD) (t : Fin cfg0.N) (k : Fin 256) (q : Fin 256) : (iblk m c 16 t (ix2 k q) : EReal) = (XK m c).wmem k (col t q) := by
  have e : (iblk m c 16 t (ix2 k q) : EReal) = (V m c main_v6 : S256x2048.Idx → EReal) (ix2 k (⟨256 * (t.val % 8) + q.val, by omega⟩ : Fin 2048)) := by
    show (V m c main_v6 : S256x2048.Idx → EReal) _ = _
    refine congrArg _ ?_
    blk_ext [idxCol t]
  rw [e, V_wmem]
  unfold XK col
  pointwise

/-- The block of the output projection. -/
theorem blk17 (c : Dev nD) (t : Fin cfg0.N) (q : Fin 256) (d : Fin 2048) : (iblk m c 17 t (ix2 q d) : EReal) = (XK m c).wout (col t q) d := by
  have e : (iblk m c 17 t (ix2 q d) : EReal) = (V m c main_v7 : S2048x2048.Idx → EReal) (ix2 (⟨256 * (t.val % 8) + q.val, by omega⟩ : Fin 2048) d) := by
    show (V m c main_v7 : S2048x2048.Idx → EReal) _ = _
    refine congrArg _ ?_
    blk_ext [idxCol t]
  rw [e, V_wout]
  unfold XK col
  pointwise

/-- The block of the normalisation's gain. -/
theorem blk18 (c : Dev nD) (t : Fin cfg0.N) (d : Fin 2048) : (iblk m c 18 t (ix2 (0 : Fin 1) d) : EReal) = (XK m c).lng d := by
  have e : (iblk m c 18 t (ix2 (0 : Fin 1) d) : EReal) = (V m c main_v8 : S1x2048.Idx → EReal) (ix2 (0 : Fin 1) d) := by
    show (V m c main_v8 : S1x2048.Idx → EReal) _ = _
    refine congrArg _ ?_
    blk_ext [idxWhole t]
  rw [e, V_lng]
  unfold XK
  pointwise

/-- The block of the normalisation's bias. -/
theorem blk19 (c : Dev nD) (t : Fin cfg0.N) (d : Fin 2048) : (iblk m c 19 t (ix2 (0 : Fin 1) d) : EReal) = (XK m c).lnb d := by
  have e : (iblk m c 19 t (ix2 (0 : Fin 1) d) : EReal) = (V m c main_v9 : S1x2048.Idx → EReal) (ix2 (0 : Fin 1) d) := by
    show (V m c main_v9 : S1x2048.Idx → EReal) _ = _
    refine congrArg _ ?_
    blk_ext [idxWhole t]
  rw [e, V_lnb]
  unfold XK
  pointwise

end Cert.Merge

end
-- ==== Proof.Merge.Pay.lean ====
/-
  What one point of the merge computes from its blocks, at an index, over exact arithmetic: the branch sum of its 256 features and
  their share of the output projection, the S5 branch, and the layer normalisation.
-/
module

public import proofs.«01_k».proof.Proof.Gen.Kernel3Ideal.Skeleton
public import proofs.«01_k».proof.Proof.Merge.Spec

@[expose] public section

set_option maxRecDepth 16384

noncomputable section

namespace Cert.Merge

open Cert.Kernel3Ideal Cert.Kernel3Ideal.Gen Idealize.ShloMosaic

/-- Zero minus a value is its negative. -/
theorem zero_sub_eq (x : EReal) : 0 - x = -x := by rw [sub_eq_add_neg, zero_add]

/-- The input rounded, kept in scratch. -/
theorem pay3_apply (v : Vec Ideal S512x2048 .f32) (l : Fin 512) (k : Fin 2048) : (k0_pay3 (F := Ideal) v (ix2 l k) : EReal) = v (ix2 l k) := by
  pointwise [k0_pay3]

/-- The accumulator's first contents. -/
theorem pay5_apply (l : Fin 512) (k : Fin 2048) : (k0_pay5 (F := Ideal) (Scalar.ofBits .f32 0x00000000#32) (ix2 l k) : EReal) = 0 := by
  pointwise [k0_pay5]

/-- The S5 branch, kept in scratch. -/
theorem pay4_apply (s : Vec Ideal S512x512 .f32) (w : Vec Ideal S512x512 .bf16) (b : Vec Ideal S1x512 .f32) (z : Vec Ideal S512x512 .f32) (l j : Fin 512) :
    (k0_pay4 (F := Ideal) s w b z (ix2 l j) : EReal)
      = s (ix2 l j) * sg ((∑ k : Fin 512, (s (ix2 l k) * w (ix2 k j) : EReal)) + b (ix2 0 j)) * (z (ix2 l j) * sg (z (ix2 l j))) := by
  unfold sg
  simp only [← zero_sub_eq]
  pointwise [k0_pay4]

/-- The gate's value before its sigmoid: the rows times the gate's columns plus the bias. -/
def pre (x : Vec Ideal S512x2048 .bf16) (w : Vec Ideal S2048x256 .bf16) (b : Vec Ideal S1x1x256 .f32) (l : Fin 512) (q : Fin 256) : EReal :=
  (∑ k : Fin 2048, (x (ix2 l k) * w (ix2 k q) : EReal)) + b (ix3 0 0 q)

/-- The first gated branch. -/
theorem pay6_apply (x : Vec Ideal S512x2048 .bf16) (w : Vec Ideal S2048x256 .bf16) (b : Vec Ideal S1x1x256 .f32) (y : Vec Ideal S512x512 .bf16)
    (v : Vec Ideal S512x256 .bf16) (l : Fin 512) (q : Fin 256) :
    (k0_pay6 (F := Ideal) x w b y v (ix2 l q) : EReal) = sg (pre x w b l q) * (∑ k : Fin 512, (y (ix2 l k) * v (ix2 k q) : EReal)) := by
  unfold sg pre
  simp only [← zero_sub_eq]
  pointwise [k0_pay6]

/-- The second gate's exponential. -/
theorem pay7_apply (x : Vec Ideal S512x2048 .bf16) (w : Vec Ideal S2048x256 .bf16) (b : Vec Ideal S1x1x256 .f32) (l : Fin 512) (q : Fin 256) :
    (k0_pay7 (F := Ideal) x w b (ix2 l q) : EReal) = Ideal.exp (-(pre x w b l q)) := by
  unfold pre
  simp only [← zero_sub_eq]
  pointwise [k0_pay7]

/-- The first three gated branches, from the first and the second gate's exponential. -/
theorem pay8_apply (x : Vec Ideal S512x2048 .bf16) (f e : FVec Ideal S512x256 .f32) (y1 : Vec Ideal S512x512 .bf16) (v1 : Vec Ideal S512x256 .bf16)
    (w : Vec Ideal S2048x256 .bf16) (b : Vec Ideal S1x1x256 .f32) (y2 : Vec Ideal S512x1024 .bf16) (v2 : Vec Ideal S1024x256 .bf16) (l : Fin 512) (q : Fin 256) :
    (k0_pay8 (F := Ideal) x f e (Scalar.ofBits .f32 0x3F800000#32) y1 v1 w b y2 v2 (ix2 l q) : EReal)
      = f (ix2 l q) + Ideal.div 1 (1 + e (ix2 l q)) * (∑ k : Fin 512, (y1 (ix2 l k) * v1 (ix2 k q) : EReal))
        + sg (pre x w b l q) * (∑ k : Fin 1024, (y2 (ix2 l k) * v2 (ix2 k q) : EReal)) := by
  unfold sg pre
  simp only [← zero_sub_eq]
  pointwise [k0_pay8]

/-- The accumulator after a point: the four gated branches of its 256 features, `f` the first three, times their rows of the output
    projection, added to what the accumulator held. -/
theorem pay1_apply (f : FVec Ideal S512x256 .f32) (x : Vec Ideal S512x2048 .bf16) (w : Vec Ideal S2048x256 .bf16) (b : Vec Ideal S1x1x256 .f32)
    (y : Vec Ideal S512x256 .bf16) (v : Vec Ideal S256x256 .bf16) (a : Vec Ideal S512x2048 .f32) (o : Vec Ideal S256x2048 .bf16) (l : Fin 512) (d : Fin 2048) :
    (k0_pay1 (F := Ideal) f (k0_pay9 (F := Ideal) x w) (k0_pay10 (F := Ideal) b) y v a o (ix2 l d) : EReal)
      = a (ix2 l d) + ∑ q : Fin 256, (f (ix2 l q) + sg (pre x w b l q) * (∑ k : Fin 256, (y (ix2 l k) * v (ix2 k q) : EReal)) : EReal) * o (ix2 q d) := by
  unfold sg pre
  simp only [← zero_sub_eq]
  pointwise [k0_pay1, k0_pay9, k0_pay10]

/-- The output block: the layer normalisation of the input scaled plus the accumulator. -/
theorem pay2_apply (x a : Vec Ideal S512x2048 .f32) (g b : Vec Ideal S1x2048 .f32) (l : Fin 512) (d : Fin 2048) :
    (k0_pay2 (F := Ideal) x a g b (ix2 l d) : EReal)
      = norm (fun e => x (ix2 l e)) (fun e => a (ix2 l e)) (fun e => g (ix2 0 e)) (fun e => b (ix2 0 e)) d := by
  unfold norm
  pointwise [k0_pay2]

end Cert.Merge

end
-- ==== Proof.Merge.Point.lean ====
/-
  What a point of the merge leaves in its three scratch arrays and in its output block, in terms of what the point before left:
  at the first column block of a row block the input and the S5 branch are stored and the accumulator starts from zero; every point
  adds its 256 features to the accumulator; the last one normalises and stores the output.
-/
module

public import proofs.«01_k».proof.Proof.Merge.IdealFrame
public import proofs.«01_k».proof.Proof.Merge.Blocks
public import proofs.«01_k».proof.Proof.Merge.Pay

@[expose] public section

set_option maxRecDepth 16384

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ)

/-- The bias block's rows, one for each gate. -/
def bias0 (v : Vec Ideal S4x1x256 .f32) : Vec Ideal S1x1x256 .f32 := View.ld v (Rect.unit ![0, 0, 0] ![1, 1, 256] inb_S4x1x256_S1x1x256_0_0_0)
@[inherit_doc bias0] def bias1 (v : Vec Ideal S4x1x256 .f32) : Vec Ideal S1x1x256 .f32 := View.ld v (Rect.unit ![1, 0, 0] ![1, 1, 256] inb_S4x1x256_S1x1x256_1_0_0)
@[inherit_doc bias0] def bias2 (v : Vec Ideal S4x1x256 .f32) : Vec Ideal S1x1x256 .f32 := View.ld v (Rect.unit ![2, 0, 0] ![1, 1, 256] inb_S4x1x256_S1x1x256_2_0_0)
@[inherit_doc bias0] def bias3 (v : Vec Ideal S4x1x256 .f32) : Vec Ideal S1x1x256 .f32 := View.ld v (Rect.unit ![3, 0, 0] ![1, 1, 256] inb_S4x1x256_S1x1x256_3_0_0)

/-- A bias row at an index. -/
theorem bias_apply (v : Vec Ideal S4x1x256 .f32) (q : Fin 256) :
    (bias0 v (ix3 0 0 q) : EReal) = v (ix3 0 0 q) ∧ (bias1 v (ix3 0 0 q) : EReal) = v (ix3 1 0 q)
      ∧ (bias2 v (ix3 0 0 q) : EReal) = v (ix3 2 0 q) ∧ (bias3 v (ix3 0 0 q) : EReal) = v (ix3 3 0 q) := by
  refine ⟨?_, ?_, ?_, ?_⟩ <;>
    exact congrArg v (by
      funext a
      fin_cases a <;> exact Fin.ext (by first | rfl | (show 0 + 1 * q.val = q.val; omega) | (show 0 + q.val * 1 = q.val; omega)))

/-- The first three gated branches at a point, from the input `x` and the S5 branch `y`. -/
def three (c : Dev nD) (t : Fin cfg0.N) (x : Vec Ideal S512x2048 .bf16) (y : Vec Ideal S512x512 .bf16) : FVec Ideal S512x256 .f32 :=
  k0_pay8 (F := Ideal) x (k0_pay6 (F := Ideal) x (iblk m c 8 t) (bias0 (iblk m c 12 t)) y (iblk m c 13 t))
    (k0_pay7 (F := Ideal) x (iblk m c 9 t) (bias1 (iblk m c 12 t))) (Scalar.ofBits .f32 0x3F800000#32) (iblk m c 3 t) (iblk m c 14 t)
    (iblk m c 10 t) (bias2 (iblk m c 12 t)) (iblk m c 4 t) (iblk m c 15 t)

/-- The accumulator after a point, from the input `x`, the S5 branch `y` and the accumulator `a` before it. -/
def step (c : Dev nD) (t : Fin cfg0.N) (x : Vec Ideal S512x2048 .bf16) (y : Vec Ideal S512x512 .bf16) (a : Vec Ideal S512x2048 .f32) :
    FVec Ideal S512x2048 .f32 :=
  k0_pay1 (F := Ideal) (three m c t x y) (k0_pay9 (F := Ideal) x (iblk m c 11 t)) (k0_pay10 (F := Ideal) (bias3 (iblk m c 12 t)))
    (iblk m c 5 t) (iblk m c 16 t) a (iblk m c 17 t)

/-- The rows of the input after the first point of a row block. -/
theorem x_first (c : Dev nD) (t : Fin cfg0.N) (h : t.val % 8 = 0) : (outsAt0 m c t.val t.isLt).2.1 = k0_pay3 (F := Ideal) (iblk m c 0 t) := by
  rw [outsAt0_A m c t h (by omega)]
  frame_out

/-- The S5 branch after the first point of a row block. -/
theorem y_first (c : Dev nD) (t : Fin cfg0.N) (h : t.val % 8 = 0) :
    (outsAt0 m c t.val t.isLt).2.2.1 = k0_pay4 (F := Ideal) (iblk m c 1 t) (iblk m c 6 t) (iblk m c 7 t) (iblk m c 2 t) := by
  rw [outsAt0_A m c t h (by omega)]
  frame_out

/-- The accumulator after the first point of a row block. -/
theorem acc_first (c : Dev nD) (t : Fin cfg0.N) (h : t.val % 8 = 0) :
    (outsAt0 m c t.val t.isLt).2.2.2 = step m c t (outsAt0 m c t.val t.isLt).2.1 (outsAt0 m c t.val t.isLt).2.2.1
      (k0_pay5 (F := Ideal) (Scalar.ofBits .f32 0x00000000#32)) := by
  rw [x_first m c t h, y_first m c t h, outsAt0_A m c t h (by omega)]
  frame_out
  rfl

/-- The number of the point before. -/
theorem pred_lt (t : Fin cfg0.N) : t.val - 1 < cfg0.N := Nat.lt_of_le_of_lt (Nat.sub_le _ _) t.isLt

/-- The rows of the input after another point are as the point before left them. -/
theorem x_next (c : Dev nD) (t : Fin cfg0.N) (h : ¬t.val % 8 = 0) : (outsAt0 m c t.val t.isLt).2.1 = (outsAt0 m c (t.val - 1) (pred_lt t)).2.1 := by
  by_cases h' : t.val % 8 = 7
  · rw [outsAt0_C m c t h h']
    rfl
  · rw [outsAt0_B m c t h h']
    rfl

/-- The S5 branch after another point is as the point before left it. -/
theorem y_next (c : Dev nD) (t : Fin cfg0.N) (h : ¬t.val % 8 = 0) : (outsAt0 m c t.val t.isLt).2.2.1 = (outsAt0 m c (t.val - 1) (pred_lt t)).2.2.1 := by
  by_cases h' : t.val % 8 = 7
  · rw [outsAt0_C m c t h h']
    rfl
  · rw [outsAt0_B m c t h h']
    rfl

/-- The accumulator after another point. -/
theorem acc_next (c : Dev nD) (t : Fin cfg0.N) (h : ¬t.val % 8 = 0) :
    (outsAt0 m c t.val t.isLt).2.2.2 = step m c t (outsAt0 m c t.val t.isLt).2.1 (outsAt0 m c t.val t.isLt).2.2.1
      (outsAt0 m c (t.val - 1) (pred_lt t)).2.2.2 := by
  rw [x_next m c t h, y_next m c t h]
  by_cases h' : t.val % 8 = 7
  · rw [outsAt0_C m c t h h']
    frame_out
    simp only [read_unread_whole]
    rfl
  · rw [outsAt0_B m c t h h']
    frame_out
    simp only [read_unread_whole]
    rfl

/-- The output block after the last point of a row block. -/
theorem out_last (c : Dev nD) (t : Fin cfg0.N) (h : t.val % 8 = 7) :
    (outsAt0 m c t.val t.isLt).1 = k0_pay2 (F := Ideal) (iblk m c 0 t) (outsAt0 m c t.val t.isLt).2.2.2 (iblk m c 18 t) (iblk m c 19 t) := by
  have h0 : ¬t.val % 8 = 0 := by omega
  rw [acc_next m c t h0, x_next m c t h0, y_next m c t h0, outsAt0_C m c t h0 h]
  frame_out
  simp only [read_unread_whole]
  rfl

/-- A point's first three gated branches at an index, where `x` holds the input's rows and `y` the S5 branch's. -/
theorem three_apply (c : Dev nD) (t : Fin cfg0.N) (x : Vec Ideal S512x2048 .bf16) (y : Vec Ideal S512x512 .bf16) (l : Fin 512) (q : Fin 256)
    (hx : ∀ k, (x (ix2 l k) : EReal) = (XK m c).x (row t l) k) (hy : ∀ k, (y (ix2 l k) : EReal) = y5 (XK m c) (row t l) k) :
    (three m c t x y (ix2 l q) : EReal)
      = gate (XK m c) 0 (row t l) (col t q) * (∑ k : Fin 512, y5 (XK m c) (row t l) k * (XK m c).ws5 k (col t q))
        + gate (XK m c) 1 (row t l) (col t q) * (∑ k : Fin 512, (XK m c).att (row t l) k * (XK m c).watt k (col t q))
        + gate (XK m c) 2 (row t l) (col t q) * (∑ k : Fin 1024, (XK m c).ssd (row t l) k * (XK m c).wssd k (col t q)) := by
  unfold three
  rw [pay8_apply, pay6_apply, pay7_apply]
  unfold pre
  obtain ⟨b0, b1, b2, -⟩ := bias_apply (iblk m c 12 t) q
  simp only [b0, b1, b2, hx, hy, blk12 m c t, blk8 m c t, blk9 m c t, blk10 m c t, blk13 m c t, blk14 m c t, blk15 m c t, blk3 m c t, blk4 m c t]
  rfl

/-- The accumulator after a point at an index: what it held plus the point's 256 features times their rows of the output projection. -/
theorem step_apply (c : Dev nD) (t : Fin cfg0.N) (x : Vec Ideal S512x2048 .bf16) (y : Vec Ideal S512x512 .bf16) (a : Vec Ideal S512x2048 .f32)
    (l : Fin 512) (d : Fin 2048)
    (hx : ∀ k, (x (ix2 l k) : EReal) = (XK m c).x (row t l) k) (hy : ∀ k, (y (ix2 l k) : EReal) = y5 (XK m c) (row t l) k) :
    (step m c t x y a (ix2 l d) : EReal)
      = a (ix2 l d) + ∑ q : Fin 256, merged (XK m c) (row t l) (col t q) * (XK m c).wout (col t q) d := by
  unfold step
  rw [pay1_apply]
  unfold pre
  refine congrArg (fun z : EReal => a (ix2 l d) + z) (Finset.sum_congr rfl fun q _ => ?_)
  obtain ⟨-, -, -, b3⟩ := bias_apply (iblk m c 12 t) q
  rw [three_apply m c t x y l q hx hy]
  simp only [b3, hx, blk12 m c t, blk11 m c t, blk16 m c t, blk5 m c t, blk17 m c t]
  rfl

end Cert.Merge

end
-- ==== Proof.Merge.State.lean ====
/-
  The merge's state after every point, and the array that the kernel leaves: `Cert.Merge.out` of the arguments.
-/
module

public import proofs.«01_k».proof.Proof.Merge.IdealValue
public import proofs.«01_k».proof.Proof.Merge.Point

@[expose] public section

set_option maxRecDepth 16384

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ)

/-- Two consecutive points of one row block have the same rows. -/
theorem row_next (n : ℕ) (hn : n + 1 < cfg0.N) (h : ¬(n + 1) % 8 = 0) (l : Fin 512) : row ⟨n, Nat.lt_of_succ_lt hn⟩ l = row ⟨n + 1, hn⟩ l := by
  have e : n / 8 = (n + 1) / 8 := by omega
  exact Fin.ext (by show 512 * (n / 8) + l.val = 512 * ((n + 1) / 8) + l.val; rw [e])

/-- The first scratch array holds the point's rows of the input after every point. -/
theorem held_x (c : Dev nD) : ∀ (n : ℕ) (hn : n < cfg0.N) (l : Fin 512) (k : Fin 2048),
    ((outsAt0 m c n hn).2.1 (ix2 l k) : EReal) = (XK m c).x (row ⟨n, hn⟩ l) k := by
  intro n
  induction n with
  | zero =>
    intro hn l k
    refine (congrFun (x_first m c ⟨0, hn⟩ rfl) (ix2 l k)).trans ?_
    exact (pay3_apply _ l k).trans (blk0 m c ⟨0, hn⟩ l k)
  | succ n ih =>
    intro hn l k
    by_cases h : (n + 1) % 8 = 0
    · refine (congrFun (x_first m c ⟨n + 1, hn⟩ h) (ix2 l k)).trans ?_
      exact (pay3_apply _ l k).trans (blk0 m c ⟨n + 1, hn⟩ l k)
    · refine (congrFun (x_next m c ⟨n + 1, hn⟩ h) (ix2 l k)).trans ?_
      exact (ih (Nat.lt_of_succ_lt hn) l k).trans (by rw [row_next n hn h l])

/-- What the first point of a row block stores as the S5 branch. -/
theorem y_stored (c : Dev nD) (t : Fin cfg0.N) (l k : Fin 512) :
    (k0_pay4 (F := Ideal) (iblk m c 1 t) (iblk m c 6 t) (iblk m c 7 t) (iblk m c 2 t) (ix2 l k) : EReal) = y5 (XK m c) (row t l) k := by
  rw [pay4_apply]
  unfold y5
  simp only [blk1 m c t, blk6 m c t, blk7 m c t, blk2 m c t]

/-- The second scratch array holds the point's rows of the S5 branch after every point. -/
theorem held_y (c : Dev nD) : ∀ (n : ℕ) (hn : n < cfg0.N) (l k : Fin 512),
    ((outsAt0 m c n hn).2.2.1 (ix2 l k) : EReal) = y5 (XK m c) (row ⟨n, hn⟩ l) k := by
  intro n
  induction n with
  | zero =>
    intro hn l k
    exact (congrFun (y_first m c ⟨0, hn⟩ rfl) (ix2 l k)).trans (y_stored m c ⟨0, hn⟩ l k)
  | succ n ih =>
    intro hn l k
    by_cases h : (n + 1) % 8 = 0
    · exact (congrFun (y_first m c ⟨n + 1, hn⟩ h) (ix2 l k)).trans (y_stored m c ⟨n + 1, hn⟩ l k)
    · refine (congrFun (y_next m c ⟨n + 1, hn⟩ h) (ix2 l k)).trans ?_
      exact (ih (Nat.lt_of_succ_lt hn) l k).trans (by rw [row_next n hn h l])

/-- Feature `e`'s share of the output projection at row `r` and column `d`. -/
def term (c : Dev nD) (r : Fin 32768) (d : Fin 2048) (e : ℕ) : EReal :=
  if h : e < 2048 then merged (XK m c) r ⟨e, h⟩ * (XK m c).wout ⟨e, h⟩ d else 0

/-- A point's 256 features as a range of all features. -/
theorem block_sum (c : Dev nD) (t : Fin cfg0.N) (r : Fin 32768) (d : Fin 2048) :
    (∑ q : Fin 256, merged (XK m c) r (col t q) * (XK m c).wout (col t q) d)
      = ∑ q ∈ Finset.range 256, term m c r d (256 * (t.val % 8) + q) := by
  rw [Finset.sum_range]
  refine Finset.sum_congr rfl fun q _ => ?_
  have h : 256 * (t.val % 8) + q.val < 2048 := by omega
  unfold term
  rw [dif_pos h]
  rfl

/-- The accumulator after every point: the features up to the point's last. -/
theorem held_acc (c : Dev nD) : ∀ (n : ℕ) (hn : n < cfg0.N) (l : Fin 512) (d : Fin 2048),
    ((outsAt0 m c n hn).2.2.2 (ix2 l d) : EReal) = ∑ e ∈ Finset.range (256 * (n % 8) + 256), term m c (row ⟨n, hn⟩ l) d e := by
  have first : ∀ (t : Fin cfg0.N) (h : t.val % 8 = 0) (l : Fin 512) (d : Fin 2048),
      ((outsAt0 m c t.val t.isLt).2.2.2 (ix2 l d) : EReal) = ∑ e ∈ Finset.range (256 * (t.val % 8) + 256), term m c (row t l) d e := by
    intro t h l d
    refine (congrFun (acc_first m c t h) (ix2 l d)).trans ?_
    rw [step_apply m c t _ _ _ l d (held_x m c t.val t.isLt l) (held_y m c t.val t.isLt l), pay5_apply, zero_add, block_sum m c t, h]
    refine Finset.sum_congr rfl fun q _ => ?_
    rw [Nat.mul_zero, Nat.zero_add]
  intro n
  induction n with
  | zero =>
    intro hn l d
    exact first ⟨0, hn⟩ rfl l d
  | succ n ih =>
    intro hn l d
    by_cases h : (n + 1) % 8 = 0
    · exact first ⟨n + 1, hn⟩ h l d
    · refine (congrFun (acc_next m c ⟨n + 1, hn⟩ h) (ix2 l d)).trans ?_
      rw [step_apply m c ⟨n + 1, hn⟩ _ _ _ l d (held_x m c (n + 1) hn l) (held_y m c (n + 1) hn l), block_sum m c ⟨n + 1, hn⟩]
      have e : 256 * (n % 8) + 256 = 256 * ((n + 1) % 8) := by omega
      refine (congrArg (fun z : EReal => z + _) ((ih (Nat.lt_of_succ_lt hn) l d).trans ?_)).trans (Finset.sum_range_add _ _ _).symm
      rw [e, row_next n hn h l]

/-- The output block after the last point of a row block: the layer's result. -/
theorem block_out (c : Dev nD) (t : Fin cfg0.N) (h : t.val % 8 = 7) (l : Fin 512) (d : Fin 2048) :
    ((outsAt0 m c t.val t.isLt).1 (ix2 l d) : EReal) = out (XK m c) (row t l) d := by
  rw [out_last m c t h, pay2_apply]
  unfold out
  simp only [blk0 m c t, blk18 m c t, blk19 m c t]
  refine congrArg (fun y => norm _ y _ _ d) (funext fun e => ?_)
  refine (held_acc m c t.val t.isLt l e).trans ?_
  rw [h]
  unfold proj
  refine (Finset.sum_range _).trans (Finset.sum_congr rfl fun q _ => ?_)
  unfold term
  rw [dif_pos q.isLt]

/-- The array that the kernel leaves, at every index. -/
theorem result (c : Dev nD) (r : Fin 32768) (d : Fin 2048) : (Value.G20 m c (ix2 r d) : EReal) = out (XK m c) r d := by
  have hN : 8 * (r.val / 512) + 7 < cfg0.N := lt_of_lt_of_eq (by omega : 8 * (r.val / 512) + 7 < 512) N_0.symm
  have hp : Value.pt20Of (ix2 r d) = 8 * (r.val / 512) + 7 := by
    show 8 * (1 * (r.val / 512 - 0) + 1 * (d.val / 2048 - 0)) + 7 = 8 * (r.val / 512) + 7
    omega
  have hl : Value.loc20Of (ix2 r d) = ix2 (⟨r.val % 512, by omega⟩ : Fin 512) d := by
    refine funext fun a => Fin.ext ?_
    fin_cases a
    · rfl
    · show d.val % 2048 = d.val; omega
  unfold Value.G20
  rw [dif_pos (lt_of_eq_of_lt hp hN), hl]
  refine Eq.trans ?_ ((block_out m c ⟨8 * (r.val / 512) + 7, hN⟩ (by show (8 * (r.val / 512) + 7) % 8 = 7; omega) ⟨r.val % 512, by omega⟩ d).trans ?_)
  · rw [Value.outsAt0_sweep m c (8 * (r.val / 512) + 7) hN]
    exact congrArg (fun z : Vec Ideal S512x2048 .f32 × Vec Ideal S512x2048 .bf16 × Vec Ideal S512x512 .bf16 × Vec Ideal S512x2048 .f32 =>
      (z.1 (ix2 (⟨r.val % 512, by omega⟩ : Fin 512) d) : EReal)) (Value.fold0_congr m c _ _ _ _ hp)
  · exact congrArg (fun z => out (XK m c) z d) (Fin.ext (by show 512 * ((8 * (r.val / 512) + 7) / 8) + r.val % 512 = r.val; omega))

end Cert.Merge

end
-- ==== Proof.Merge.Ref.lean ====
/-
  The reference's result is `Cert.Merge.out` of the arguments, stage by stage.
-/
module

public import proofs.«01_k».proof.Proof.Gen.Reference3Ideal.Run
public import proofs.«01_k».proof.Proof.Merge.Spec

@[expose] public section

set_option maxRecDepth 16384

noncomputable section

namespace Cert.Merge.Ref

open Idealize.ShloMosaic Cert.Reference3Ideal Cert.Reference3Ideal.Gen

variable (a0 : FVec Ideal S32768x2048 .f32) (a1 : FVec Ideal S32768x6144 .f32) (a2 : FVec Ideal S32768x512 .f32) (a3 : FVec Ideal S32768x512 .bf16)
  (a4 : FVec Ideal S32768x1024 .bf16) (a5 : FVec Ideal S32768x256 .bf16) (a6 : FVec Ideal S512x512 .f32) (a7 : FVec Ideal S512 .f32)
  (a8 : FVec Ideal S2048x8192 .bf16) (a9 : FVec Ideal S8192 .f32) (a10 a11 : FVec Ideal S512x2048 .f32) (a12 : FVec Ideal S1024x2048 .f32)
  (a13 : FVec Ideal S256x2048 .f32) (a14 : FVec Ideal S2048x2048 .f32) (a15 a16 : FVec Ideal S2048 .f32)

/-- The arguments, as functions. -/
def inp : Inp where
  x r k := a0 (ix2 r k)
  h r k := a1 (ix2 r k)
  s5 r k := a2 (ix2 r k)
  att r k := a3 (ix2 r k)
  ssd r k := a4 (ix2 r k)
  mem r k := a5 (ix2 r k)
  wglu k j := a6 (ix2 k j)
  bglu j := a7 (ix1 j)
  wg k j := a8 (ix2 k j)
  bg j := a9 (ix1 j)
  ws5 k j := a10 (ix2 k j)
  watt k j := a11 (ix2 k j)
  wssd k j := a12 (ix2 k j)
  wmem k j := a13 (ix2 k j)
  wout k j := a14 (ix2 k j)
  lng j := a15 (ix1 j)
  lnb j := a16 (ix1 j)

local notation "X" => inp a0 a1 a2 a3 a4 a5 a6 a7 a8 a9 a10 a11 a12 a13 a14 a15 a16

/-- The S5 branch. -/
def y5Arr : FVec Ideal S32768x512 .f32 :=
  mulf (mulf a2 (Host.divf (broadcastInDim S32768x512 ![] bcast_S_S32768x512 (constant S_ .f32 0x3F800000#32)) (addf (broadcastInDim S32768x512 ![] bcast_S_S32768x512 (constant S_ .f32 0x3F800000#32)) (Host.exp (Host.negf (addf (Host.dotGeneral dot_S32768x512_S512x512_S32768x512_1_0_0_1_n_n none a2 a6) (broadcastInDim S32768x512 ![0, 1] bcast_S1x512_S32768x512_0_1 (broadcastInDim S1x512 ![1] bcast_S512_S1x512_1 a7))))))))
    (mulf (extractStridedSlice S32768x512 ![0, 3072] a1 slices_S32768x6144_S32768x512_0_3072) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 3072] a1 slices_S32768x6144_S32768x512_0_3072))))))

/-- The gates of the four branches. -/
def gateArr : FVec Ideal S32768x4x2048 .f32 :=
  shapeCast S32768x4x2048 (Host.divf (broadcastInDim S32768x8192 ![] bcast_S_S32768x8192 (constant S_ .f32 0x3F800000#32)) (addf (broadcastInDim S32768x8192 ![] bcast_S_S32768x8192 (constant S_ .f32 0x3F800000#32)) (Host.exp (Host.negf (addf (Host.dotGeneral dot_S32768x2048_S2048x8192_S32768x8192_1_0_0_1_n_n none a0 (extf .f32 a8 bitsLt_bf16_f32)) (broadcastInDim S32768x8192 ![0, 1] bcast_S1x8192_S32768x8192_0_1 (broadcastInDim S1x8192 ![1] bcast_S8192_S1x8192_1 a9))))))) shapeCasts_S32768x8192_S32768x4x2048

/-- The sum of the gated branches, from the S5 branch `y` and the gates `g`. -/
def mergedArr (y : FVec Ideal S32768x512 .f32) (g : FVec Ideal S32768x4x2048 .f32) : FVec Ideal S32768x2048 .f32 :=
  addf (addf (addf
    (mulf (shapeCast S32768x2048 (extractStridedSlice S32768x1x2048 ![0, 0, 0] g slices_S32768x4x2048_S32768x1x2048_0_0_0) shapeCasts_S32768x1x2048_S32768x2048) (Host.dotGeneral dot_S32768x512_S512x2048_S32768x2048_1_0_0_1_n_n none y a10))
    (mulf (shapeCast S32768x2048 (extractStridedSlice S32768x1x2048 ![0, 1, 0] g slices_S32768x4x2048_S32768x1x2048_0_1_0) shapeCasts_S32768x1x2048_S32768x2048) (Host.dotGeneral dot_S32768x512_S512x2048_S32768x2048_1_0_0_1_n_n none (extf .f32 a3 bitsLt_bf16_f32) a11)))
    (mulf (shapeCast S32768x2048 (extractStridedSlice S32768x1x2048 ![0, 2, 0] g slices_S32768x4x2048_S32768x1x2048_0_2_0) shapeCasts_S32768x1x2048_S32768x2048) (Host.dotGeneral dot_S32768x1024_S1024x2048_S32768x2048_1_0_0_1_n_n none (extf .f32 a4 bitsLt_bf16_f32) a12)))
    (mulf (shapeCast S32768x2048 (extractStridedSlice S32768x1x2048 ![0, 3, 0] g slices_S32768x4x2048_S32768x1x2048_0_3_0) shapeCasts_S32768x1x2048_S32768x2048) (Host.dotGeneral dot_S32768x256_S256x2048_S32768x2048_1_0_0_1_n_n none (extf .f32 a5 bitsLt_bf16_f32) a13))

/-- The scaled residual plus the output projection of `y`. -/
def resArr (y : FVec Ideal S32768x2048 .f32) : FVec Ideal S32768x2048 .f32 :=
  addf (mulf (broadcastInDim S32768x2048 ![] bcast_S_S32768x2048 (constant S_ .f32 0x3FB504F3#32)) a0) (Host.dotGeneral dot_S32768x2048_S2048x2048_S32768x2048_1_0_0_1_n_n none y a14)

/-- The mean over the features. -/
def meanArr (y : FVec Ideal S32768x2048 .f32) : FVec Ideal S32768x1 .f32 :=
  Host.divf (broadcastInDim S32768x1 ![0] bcast_S32768_S32768x1_0 (Host.reduceAdd y (constant S_ .f32 0x00000000#32) reducesTo_S32768x2048_S32768_d1 h_S_)) (broadcastInDim S32768x1 ![] bcast_S_S32768x1 (constant S_ .f32 0x45000000#32))

/-- The difference from the mean. -/
def centArr (y : FVec Ideal S32768x2048 .f32) : FVec Ideal S32768x2048 .f32 :=
  subf y (broadcastInDim S32768x2048 ![0, 1] bcast_S32768x1_S32768x2048_0_1 (meanArr y))

/-- The layer normalisation. -/
def normArr (y : FVec Ideal S32768x2048 .f32) : FVec Ideal S32768x2048 .f32 :=
  addf (mulf (mulf (centArr y) (broadcastInDim S32768x2048 ![0, 1] bcast_S32768x1_S32768x2048_0_1 (Host.rsqrt (addf (meanArr (mulf (centArr y) (centArr y))) (broadcastInDim S32768x1 ![] bcast_S_S32768x1 (constant S_ .f32 0x3727C5AC#32))))))
    (broadcastInDim S32768x2048 ![0, 1] bcast_S1x2048_S32768x2048_0_1 (broadcastInDim S1x2048 ![1] bcast_S2048_S1x2048_1 a15)))
    (broadcastInDim S32768x2048 ![0, 1] bcast_S1x2048_S32768x2048_0_1 (broadcastInDim S1x2048 ![1] bcast_S2048_S1x2048_1 a16))

/-- The reference's result array. -/
def resultArr : FVec Ideal S32768x2048 .f32 :=
  normArr a15 a16 (resArr a0 a14 (mergedArr a3 a4 a5 a10 a11 a12 a13 (y5Arr a1 a2 a6 a7) (gateArr a0 a8 a9)))

set_option maxHeartbeats 2000000 in
/-- The reference's run leaves `resultArr` of its arguments. -/
theorem res_eq (m : (ℓ : Loc nD τ sig) → Buf (Elt Ideal) ℓ) (c : Dev nD) :
    Cert.Reference3Ideal.Value.res_main_v75 m c
      = resultArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) := rfl

/-- The S5 branch at an index. -/
theorem y5Arr_apply (r : Fin 32768) (j : Fin 512) : (y5Arr a1 a2 a6 a7 (ix2 r j) : EReal) = y5 X r j := by
  unfold y5 sg inp
  pointwise [y5Arr]

/-- The gates at an index. -/
theorem gateArr_apply (b : Fin 4) (r : Fin 32768) (d : Fin 2048) : (gateArr a0 a8 a9 (ix3 r b d) : EReal) = gate X b r d := by
  unfold gate sg inp
  simp only [Nat.mul_comm 2048]
  pointwise [gateArr]

/-- The sum of the gated branches at an index. -/
theorem mergedArr_apply (y : FVec Ideal S32768x512 .f32) (g : FVec Ideal S32768x4x2048 .f32) (r : Fin 32768) (d : Fin 2048) :
    (mergedArr a3 a4 a5 a10 a11 a12 a13 y g (ix2 r d) : EReal)
      = g (ix3 r 0 d) * (∑ k : Fin 512, (y (ix2 r k) * a10 (ix2 k d) : EReal)) + g (ix3 r 1 d) * (∑ k : Fin 512, (a3 (ix2 r k) * a11 (ix2 k d) : EReal))
        + g (ix3 r 2 d) * (∑ k : Fin 1024, (a4 (ix2 r k) * a12 (ix2 k d) : EReal)) + g (ix3 r 3 d) * (∑ k : Fin 256, (a5 (ix2 r k) * a13 (ix2 k d) : EReal)) := by
  pointwise [mergedArr]

/-- The residual at an index. -/
theorem resArr_apply (y : FVec Ideal S32768x2048 .f32) (r : Fin 32768) (d : Fin 2048) :
    (resArr a0 a14 y (ix2 r d) : EReal) = Ideal.ofBits FTy.f32 0x3FB504F3#32 * a0 (ix2 r d) + ∑ n : Fin 2048, (y (ix2 r n) * a14 (ix2 n d) : EReal) := by
  pointwise [resArr]

/-- The mean at an index. -/
theorem meanArr_apply (y : FVec Ideal S32768x2048 .f32) (r : Fin 32768) :
    (meanArr y (ix2 r 0) : EReal) = Ideal.div (∑ e : Fin 2048, y (ix2 r e)) (Ideal.ofBits FTy.f32 0x45000000#32) := by
  pointwise [meanArr]

/-- The difference from the mean at an index. -/
theorem centArr_apply (y : FVec Ideal S32768x2048 .f32) (r : Fin 32768) (d : Fin 2048) :
    (centArr y (ix2 r d) : EReal) = y (ix2 r d) - meanArr y (ix2 r 0) := by
  unfold centArr
  generalize meanArr y = z
  pointwise

/-- The normalisation at an index. -/
theorem normArr_apply (y : FVec Ideal S32768x2048 .f32) (r : Fin 32768) (d : Fin 2048) :
    (normArr a15 a16 y (ix2 r d) : EReal)
      = centArr y (ix2 r d) * Ideal.rsqrt (Ideal.div (∑ e : Fin 2048, (centArr y (ix2 r e) * centArr y (ix2 r e) : EReal)) (Ideal.ofBits FTy.f32 0x45000000#32) + Ideal.ofBits FTy.f32 0x3727C5AC#32)
        * a15 (ix1 d) + a16 (ix1 d) := by
  unfold normArr
  generalize centArr y = z
  pointwise [meanArr]

/-- The reference's result at an index. -/
theorem result_apply (r : Fin 32768) (d : Fin 2048) :
    (resultArr a0 a1 a2 a3 a4 a5 a6 a7 a8 a9 a10 a11 a12 a13 a14 a15 a16 (ix2 r d) : EReal) = out X r d := by
  have hm : ∀ e, (mergedArr a3 a4 a5 a10 a11 a12 a13 (y5Arr a1 a2 a6 a7) (gateArr a0 a8 a9) (ix2 r e) : EReal) = merged X r e := fun e => by
    rw [mergedArr_apply]
    unfold merged
    simp only [y5Arr_apply a0 a1 a2 a3 a4 a5 a6 a7 a8 a9 a10 a11 a12 a13 a14 a15 a16, gateArr_apply a0 a1 a2 a3 a4 a5 a6 a7 a8 a9 a10 a11 a12 a13 a14 a15 a16]
    rfl
  unfold resultArr out norm
  generalize mergedArr a3 a4 a5 a10 a11 a12 a13 (y5Arr a1 a2 a6 a7) (gateArr a0 a8 a9) = y at hm ⊢
  have hr : ∀ e, (resArr a0 a14 y (ix2 r e) : EReal) = Ideal.ofBits FTy.f32 0x3FB504F3#32 * (X).x r e + proj X r e := fun e => by
    rw [resArr_apply]
    unfold proj
    simp only [hm]
    rfl
  rw [normArr_apply]
  simp only [centArr_apply, meanArr_apply, hr]
  rfl

end Cert.Merge.Ref

end
-- ==== Proof.Merge.Tie.lean ====
/-
  The merge's two results are the same array: both are `Cert.Merge.out` at every row and column.
-/
module

public import proofs.«01_k».proof.Proof.Merge.State
public import proofs.«01_k».proof.Proof.Merge.Ref

@[expose] public section

set_option maxRecDepth 16384

noncomputable section

namespace Cert.Merge

open Idealize.ShloMosaic Idealize.ShloMosaic.TcCoe Idealize.SL.Sem

/-- The array that the reference computes from the kernel's arguments is the array that the kernel leaves. -/
theorem tie (m : (ℓ : Loc Cert.Kernel3Ideal.nD Cert.Kernel3Ideal.τ Cert.Kernel3Ideal.sig) → Buf (Elt Ideal) ℓ) (c : Dev Cert.Kernel3Ideal.nD) :
    (Ref.resultArr (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      (m ((c.tc : Thread Cert.Kernel3Ideal.nD Cert.Kernel3Ideal.τ).loc Cert.Kernel3Ideal.main_arg9))
      (m ((c.tc : Thread Cert.Kernel3Ideal.nD Cert.Kernel3Ideal.τ).loc Cert.Kernel3Ideal.main_arg10))
      (m ((c.tc : Thread Cert.Kernel3Ideal.nD Cert.Kernel3Ideal.τ).loc Cert.Kernel3Ideal.main_arg11))
      (m ((c.tc : Thread Cert.Kernel3Ideal.nD Cert.Kernel3Ideal.τ).loc Cert.Kernel3Ideal.main_arg12))
      (m ((c.tc : Thread Cert.Kernel3Ideal.nD Cert.Kernel3Ideal.τ).loc Cert.Kernel3Ideal.main_arg13))
      (m ((c.tc : Thread Cert.Kernel3Ideal.nD Cert.Kernel3Ideal.τ).loc Cert.Kernel3Ideal.main_arg14))
      (m ((c.tc : Thread Cert.Kernel3Ideal.nD Cert.Kernel3Ideal.τ).loc Cert.Kernel3Ideal.main_arg15))
      (m ((c.tc : Thread Cert.Kernel3Ideal.nD Cert.Kernel3Ideal.τ).loc Cert.Kernel3Ideal.main_arg16))
      : FVec Ideal ⟨2, ![32768, 2048]⟩ .f32) = Cert.Kernel3Ideal.Value.G20 m c := by
  funext i
  obtain ⟨r, d, rfl⟩ : ∃ (r : Fin 32768) (d : Fin 2048), i = ix2 r d := ⟨i 0, i 1, by funext a; fin_cases a <;> rfl⟩
  exact (Ref.result_apply _ _ _ _ _ _ _ _ _ _ _ _ _ _ _ _ _ r d).trans (result m c r d).symm

end Cert.Merge

end
-- ==== Proof.MmKer.lean ====
/-
  The projection `h = x · w` block by block. Grid point `t` has the row block `t / 12` and the column block `t % 12`; at the first
  column block of a row block the kernel stores the rows, rounded, in its scratch, and every point multiplies the scratch with its
  columns of `w`. So the scratch holds the point's rows after every point (`held`), and the output block is the product (`block`).
-/
module

public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Mm

open Cert.Kernel2Ideal Cert.Kernel2Ideal.Gen Idealize.ShloMosaic Idealize.ShloMosaic.TcCoe Idealize.SL.Sem

variable (m : (ℓ : Loc nD τ sig) → Buf (Elt Ideal) ℓ)

/-- The rows `x` of the program's arguments. -/
def X (c : Dev nD) : Vec Ideal S32768x2048 .f32 := m ((c : Thread nD τ).loc main_arg0)
/-- The weights `w` of the program's arguments. -/
def W (c : Dev nD) : Vec Ideal S2048x6144 .bf16 := m ((c : Thread nD τ).loc main_arg1)

/-- The block indices of the two inputs at each point. -/
theorem idx : ∀ t : Fin cfg0.N, win0_0.index t = ![t.val / 12, 0] ∧ win0_1.index t = ![0, t.val % 12] :=
  (by decide +kernel : ∀ t : Fin grid0.N, _)

/-- A point's row block is one of the 32. -/
theorem row_lt (t : Fin cfg0.N) (l : Fin 1024) : 1024 * (t.val / 12) + l.val < 32768 := by
  have := lt_of_lt_of_eq t.isLt N_0
  omega

/-- The first input's block: the point's 1024 rows of `x`. -/
theorem blk0 (c : Dev nD) (t : Fin cfg0.N) (l : Fin 1024) (k : Fin 2048) :
    (iblk m c 0 t (ix2 l k) : EReal) = X m c (ix2 ⟨1024 * (t.val / 12) + l.val, row_lt t l⟩ k) := by
  have h := row_lt t l
  unfold X
  blk_point [iblk, V, idx t]

/-- The second input's block: the point's 512 columns of `w`. -/
theorem blk1 (c : Dev nD) (t : Fin cfg0.N) (k : Fin 2048) (q : Fin 512) :
    (iblk m c 1 t (ix2 k q) : EReal) = W m c (ix2 k ⟨512 * (t.val % 12) + q.val, by omega⟩) := by
  unfold W
  blk_point [iblk, V, idx t]

/-- What is stored in the scratch, at an index: the rounding of the rows is the identity over exact arithmetic. -/
theorem stored_apply (v : Vec Ideal S1024x2048 .f32) (l : Fin 1024) (k : Fin 2048) : (k0_pay1 (F := Ideal) v (ix2 l k) : EReal) = v (ix2 l k) := by
  pointwise [k0_pay1]

/-- The product, at an index. -/
theorem product_apply (v : Vec Ideal S1024x2048 .bf16) (w : Vec Ideal S2048x512 .bf16) (l : Fin 1024) (q : Fin 512) :
    (k0_pay2 (F := Ideal) v w (ix2 l q) : EReal) = ∑ k : Fin 2048, (v (ix2 l k) * w (ix2 k q) : EReal) := by
  pointwise [k0_pay2]

/-- The scratch after the first point of a row block: the block's rows, rounded. -/
theorem scratch_first (c : Dev nD) (t : Fin cfg0.N) (h : t.val % 12 = 0) :
    (outsAt0 m c t.val t.isLt).2 = k0_pay1 (F := Ideal) (iblk m c 0 t) := by
  rw [outsAt0_A m c t h]
  frame_out

/-- The scratch after another point: as the point before left it. -/
theorem scratch_next (c : Dev nD) (t : Fin cfg0.N) (h : ¬t.val % 12 = 0) :
    (outsAt0 m c t.val t.isLt).2 = (outsAt0 m c (t.val - 1) (Nat.lt_of_le_of_lt (Nat.sub_le _ _) t.isLt)).2 := by
  rw [outsAt0_B m c t h]
  rfl

/-- The output block after any point: the product of the scratch with the point's columns. -/
theorem output_eq (c : Dev nD) (t : Fin cfg0.N) :
    (outsAt0 m c t.val t.isLt).1 = k0_pay2 (F := Ideal) (outsAt0 m c t.val t.isLt).2 (iblk m c 1 t) := by
  by_cases h : t.val % 12 = 0
  · rw [outsAt0_A m c t h]
    frame_out
  · refine Eq.trans ?_ (congrArg (fun z => k0_pay2 (F := Ideal) z (iblk m c 1 t)) (scratch_next m c t h).symm)
    rw [outsAt0_B m c t h]
    frame_out
    simp only [read_unread_whole]

/-- The scratch after every point holds the rows of the point's row block. -/
theorem held (c : Dev nD) : ∀ (n : ℕ) (hn : n < cfg0.N) (l : Fin 1024) (k : Fin 2048),
    ((outsAt0 m c n hn).2 (ix2 l k) : EReal) = X m c (ix2 ⟨1024 * (n / 12) + l.val, row_lt ⟨n, hn⟩ l⟩ k) := by
  intro n
  induction n with
  | zero =>
    intro hn l k
    refine (congrFun (scratch_first m c ⟨0, hn⟩ rfl) (ix2 l k)).trans ?_
    exact (stored_apply _ l k).trans (blk0 m c ⟨0, hn⟩ l k)
  | succ n ih =>
    intro hn l k
    by_cases h : (n + 1) % 12 = 0
    · refine (congrFun (scratch_first m c ⟨n + 1, hn⟩ h) (ix2 l k)).trans ?_
      exact (stored_apply _ l k).trans (blk0 m c ⟨n + 1, hn⟩ l k)
    · refine (congrFun (scratch_next m c ⟨n + 1, hn⟩ h) (ix2 l k)).trans ?_
      refine (ih (Nat.lt_of_succ_lt hn) l k).trans ?_
      have e : n / 12 = (n + 1) / 12 := by omega
      exact congrArg (fun r : Fin 32768 => (X m c (ix2 r k) : EReal)) (Fin.ext (by show 1024 * (n / 12) + l.val = 1024 * ((n + 1) / 12) + l.val; rw [e]))

/-- The output block after every point, at an index: the sum over the 2048 features. -/
theorem block (c : Dev nD) (t : Fin cfg0.N) (l : Fin 1024) (q : Fin 512) :
    ((outsAt0 m c t.val t.isLt).1 (ix2 l q) : EReal)
      = ∑ k : Fin 2048, (X m c (ix2 ⟨1024 * (t.val / 12) + l.val, row_lt t l⟩ k) * W m c (ix2 k ⟨512 * (t.val % 12) + q.val, by omega⟩) : EReal) := by
  rw [output_eq m c t]
  refine (product_apply _ _ l q).trans (Finset.sum_congr rfl fun k _ => ?_)
  exact congrArg₂ (fun a b : EReal => a * b) (held m c t.val t.isLt l k) (blk1 m c t k q)

/-- The array that the kernel leaves, at row `1024·i + l` and column `512·j + q`. -/
theorem result_at (c : Dev nD) (i : Fin 32) (j : Fin 12) (l : Fin 1024) (q : Fin 512) :
    (Value.G2 m c (ix2 (⟨1024 * i.val + l.val, by omega⟩ : Fin 32768) (⟨512 * j.val + q.val, by omega⟩ : Fin 6144)) : EReal)
      = ∑ k : Fin 2048, (X m c (ix2 ⟨1024 * i.val + l.val, by omega⟩ k) * W m c (ix2 k ⟨512 * j.val + q.val, by omega⟩) : EReal) := by
  have hN : 12 * i.val + j.val < cfg0.N := lt_of_lt_of_eq (by omega : 12 * i.val + j.val < 384) N_0.symm
  have hp : Value.pt2Of (ix2 (⟨1024 * i.val + l.val, by omega⟩ : Fin 32768) (⟨512 * j.val + q.val, by omega⟩ : Fin 6144)) = 12 * i.val + j.val := by
    show 12 * ((1024 * i.val + l.val) / 1024 - 0) + 1 * ((512 * j.val + q.val) / 512 - 0) = 12 * i.val + j.val
    omega
  have hl : Value.loc2Of (ix2 (⟨1024 * i.val + l.val, by omega⟩ : Fin 32768) (⟨512 * j.val + q.val, by omega⟩ : Fin 6144)) = ix2 l q := by
    refine funext fun a => Fin.ext ?_
    fin_cases a
    · show (1024 * i.val + l.val) % 1024 = l.val; omega
    · show (512 * j.val + q.val) % 512 = q.val; omega
  unfold Value.G2
  rw [dif_pos (lt_of_eq_of_lt hp hN), hl]
  refine Eq.trans ?_ ((block m c ⟨12 * i.val + j.val, hN⟩ l q).trans (Finset.sum_congr rfl fun k _ => ?_))
  · rw [Value.outsAt0_sweep m c (12 * i.val + j.val) hN]
    exact congrArg (fun z : Vec Ideal S1024x512 .f32 × Vec Ideal S1024x2048 .bf16 => (z.1 (ix2 l q) : EReal)) (Value.fold0_congr m c _ _ _ _ hp)
  · have e1 : (12 * i.val + j.val) / 12 = i.val := by omega
    have e2 : (12 * i.val + j.val) % 12 = j.val := by omega
    exact congrArg₂ (fun (r : Fin 32768) (s : Fin 6144) => (X m c (ix2 r k) * W m c (ix2 k s) : EReal))
      (Fin.ext (by show 1024 * ((12 * i.val + j.val) / 12) + l.val = 1024 * i.val + l.val; rw [e1]))
      (Fin.ext (by show 512 * ((12 * i.val + j.val) % 12) + q.val = 512 * j.val + q.val; rw [e2]))

/-- The array that the kernel leaves, at every index: the plain matrix product. -/
theorem result (c : Dev nD) (r : Fin 32768) (s : Fin 6144) :
    (Value.G2 m c (ix2 r s) : EReal) = ∑ k : Fin 2048, (X m c (ix2 r k) * W m c (ix2 k s) : EReal) := by
  have e1 : r = (⟨1024 * (⟨r.val / 1024, by omega⟩ : Fin 32).val + (⟨r.val % 1024, by omega⟩ : Fin 1024).val, by
      show 1024 * (r.val / 1024) + r.val % 1024 < 32768; omega⟩ : Fin 32768) := Fin.ext (by show r.val = 1024 * (r.val / 1024) + r.val % 1024; omega)
  have e2 : s = (⟨512 * (⟨s.val / 512, by omega⟩ : Fin 12).val + (⟨s.val % 512, by omega⟩ : Fin 512).val, by
      show 512 * (s.val / 512) + s.val % 512 < 6144; omega⟩ : Fin 6144) := Fin.ext (by show s.val = 512 * (s.val / 512) + s.val % 512; omega)
  rw [e1, e2]
  exact result_at m c _ _ _ _

end Cert.Mm

end
-- ==== Proof.MmTie.lean ====
/-
  The projection's two results are the same array: the kernel's and the reference's product at every row and column.
-/
module

public import proofs.«01_k».proof.Proof.MmKer
public import proofs.«01_k».proof.Proof.Gen.Reference2Ideal.Run

@[expose] public section

set_option maxRecDepth 16384

noncomputable section

namespace Cert.Mm

open Idealize.ShloMosaic Idealize.ShloMosaic.TcCoe Idealize.SL.Sem

/-- The array that the reference computes from the rows `x` and the weights `w`. -/
def refOut (x : FVec Ideal ⟨2, ![32768, 2048]⟩ .f32) (w : FVec Ideal ⟨2, ![2048, 6144]⟩ .bf16) : FVec Ideal ⟨2, ![32768, 6144]⟩ .f32 :=
  Host.dotGeneral (F := Ideal) Cert.Reference2Ideal.dot_S32768x2048_S2048x6144_S32768x6144_1_0_0_1_n_n none x
    (extf .f32 w (by decide : FTy.bits .bf16 < FTy.bits .f32))

/-- The reference's product, at an index. -/
theorem refOut_apply (x : FVec Ideal ⟨2, ![32768, 2048]⟩ .f32) (w : FVec Ideal ⟨2, ![2048, 6144]⟩ .bf16) (r : Fin 32768) (s : Fin 6144) :
    (refOut x w (ix2 r s) : EReal) = ∑ k : Fin 2048, (x (ix2 r k) * w (ix2 k s) : EReal) := by
  pointwise [refOut]

/-- The array that the reference computes from the kernel's arguments is the array that the kernel leaves. -/
theorem tie (m : (ℓ : Loc Cert.Kernel2Ideal.nD Cert.Kernel2Ideal.τ Cert.Kernel2Ideal.sig) → Buf (Elt Ideal) ℓ) (c : Dev Cert.Kernel2Ideal.nD) :
    (refOut (X m c) (W m c) : FVec Ideal ⟨2, ![32768, 6144]⟩ .f32) = Cert.Kernel2Ideal.Value.G2 m c := by
  funext i
  obtain ⟨r, s, rfl⟩ : ∃ (r : Fin 32768) (s : Fin 6144), i = ix2 r s := ⟨i 0, i 1, by funext a; fin_cases a <;> rfl⟩
  exact (refOut_apply _ _ r s).trans (result m c r s).symm

end Cert.Mm

end
-- ==== Proof.RefSteps.lean ====
/-
  The reference's loop as a sequence of states. The generated `Gen/ReferenceIdeal/Step.lean` defines one trip of the loop
  (`step`) and the state the loop starts from (`init`) as functions of the arguments; this module shows that the
  reference's generated run is `step` iterated 128 times from `init`, each value of one trip being the one that module names.
-/
module

public import proofs.«01_k».proof.Proof.Gen.ReferenceIdeal.Run
public import proofs.«01_k».proof.Proof.Gen.ReferenceIdeal.Step

@[expose] public section

noncomputable section

namespace Cert.ReferenceIdeal.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v108_7) = s.main_v108_7
  f_8 : V0 (Proc.devRef .tc main_v108_8) = s.main_v108_8
  f_0 : V0 (Proc.devRef .tc main_v108_0) = s.main_v108_0
  f_1 : V0 (Proc.devRef .tc main_v108_1) = s.main_v108_1
  f_2 : V0 (Proc.devRef .tc main_v108_2) = s.main_v108_2
  f_3 : V0 (Proc.devRef .tc main_v108_3) = s.main_v108_3
  f_4 : V0 (Proc.devRef .tc main_v108_4) = s.main_v108_4
  f_5 : V0 (Proc.devRef .tc main_v108_5) = s.main_v108_5
  n_6 : V0 (Proc.devRef .tc main_v108_6) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call5_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call5_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x2x8x64x128 (V0 (Proc.devRef .tc main_v108_0)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x2x8x64x128_S1x2x2x8x64x128 : (Proc.devRef .tc main_while0b_call5_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_6]
  try rfl
set_option maxRecDepth 8192 in
theorem al_6 (h : Holds V0 s j) : (shapeCast S2x2x8x64x128 (Host.dynamicSlice S1x2x2x8x64x128 (V0 (Proc.devRef .tc main_v108_0)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x2x8x64x128_S1x2x2x8x64x128) shapeCasts_S1x2x2x8x64x128_S2x2x8x64x128 : (Proc.devRef .tc main_while0b_v132 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (constantI S_ 32 0#32 : (Proc.devRef .tc main_while0b_call6_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call6_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_1 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8 : (Proc.devRef .tc main_while0b_call6_v0 : DevRef τ sig).ty.Contents (Elt F)) = Cert.ReferenceIdeal.Step.b10 j s := by
  unfold Cert.ReferenceIdeal.Step.b10
  rw [← al_7 h, ← al_8 h, ← al_9 h, h.f_1, h.n_6]
  try rfl
set_option maxRecDepth 8192 in
theorem al_11 (h : Holds V0 s j) : (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8 : (Proc.devRef .tc main_while0b_v133 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call7_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128 : (Proc.devRef .tc main_while0b_call7_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128 : (Proc.devRef .tc main_while0b_v134 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call8_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call8_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call8_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8 : (Proc.devRef .tc main_while0b_call8_v0 : DevRef τ sig).ty.Contents (Elt F)) = Cert.ReferenceIdeal.Step.b22 j s := by
  unfold Cert.ReferenceIdeal.Step.b22
  rw [← al_18 h, ← al_19 h, ← al_20 h, ← al_21 h, h.f_3, h.n_6]
  try rfl
set_option maxRecDepth 8192 in
theorem al_23 (h : Holds V0 s j) : (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8 : (Proc.devRef .tc main_while0b_v135 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call9_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call9_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call9_c_1 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call9_c_2 : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call9_c_3 : DevRef τ sig).ty.Contents (Elt F)) = Cert.ReferenceIdeal.Step.b28 j s := by
  unfold Cert.ReferenceIdeal.Step.b28
  rfl
set_option maxRecDepth 8192 in
theorem al_29 (h : Holds V0 s j) : (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64 : (Proc.devRef .tc main_while0b_call9_v0 : DevRef τ sig).ty.Contents (Elt F)) = Cert.ReferenceIdeal.Step.b29 j s := by
  unfold Cert.ReferenceIdeal.Step.b29
  rw [← al_24 h, ← al_25 h, ← al_26 h, ← al_27 h, ← al_28 h, h.f_4, h.n_6]
  try rfl
set_option maxRecDepth 8192 in
theorem al_30 (h : Holds V0 s j) : (shapeCast S2x128x2x8x64 (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64 : (Proc.devRef .tc main_while0b_v136 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (constantI S_ 32 0#32 : (Proc.devRef .tc main_while0b_call10_c : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call10_c_0 : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call10_c_1 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call10_c_2 : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call10_c_3 : DevRef τ sig).ty.Contents (Elt F)) = Cert.ReferenceIdeal.Step.b35 j s := by
  unfold Cert.ReferenceIdeal.Step.b35
  rfl
set_option maxRecDepth 8192 in
theorem al_36 (h : Holds V0 s j) : (Host.dynamicSlice S1x2x128x2x8x64 (V0 (Proc.devRef .tc main_v108_5)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64 : (Proc.devRef .tc main_while0b_call10_v0 : DevRef τ sig).ty.Contents (Elt F)) = Cert.ReferenceIdeal.Step.b36 j s := by
  unfold Cert.ReferenceIdeal.Step.b36
  rw [← al_31 h, ← al_32 h, ← al_33 h, ← al_34 h, ← al_35 h, h.f_5, h.n_6]
  try rfl
set_option maxRecDepth 8192 in
theorem al_37 (h : Holds V0 s j) : (shapeCast S2x128x2x8x64 (Host.dynamicSlice S1x2x128x2x8x64 (V0 (Proc.devRef .tc main_v108_5)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64 : (Proc.devRef .tc main_while0b_v137 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128) : (Proc.devRef .tc main_while0b_v138 : DevRef τ sig).ty.Contents (Elt F)) = Cert.ReferenceIdeal.Step.b38 j s := by
  unfold Cert.ReferenceIdeal.Step.b38
  rw [← al_17 h, h.f_7]
  try rfl
set_option maxRecDepth 8192 in
theorem al_39 (h : Holds V0 s j) : (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3 : (Proc.devRef .tc main_while0b_v139 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8) : (Proc.devRef .tc main_while0b_v140 : DevRef τ sig).ty.Contents (Elt F)) = Cert.ReferenceIdeal.Step.b40 j s := by
  unfold Cert.ReferenceIdeal.Step.b40
  rw [← al_23 h]
  try rfl
set_option maxRecDepth 8192 in
theorem al_41 (h : Holds V0 s j) : (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8)) : (Proc.devRef .tc main_while0b_v141 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (mulf (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8))) : (Proc.devRef .tc main_while0b_v142 : DevRef τ sig).ty.Contents (Elt F)) = Cert.ReferenceIdeal.Step.b42 j s := by
  unfold Cert.ReferenceIdeal.Step.b42
  rw [← al_39 h, ← al_41 h]
  try rfl
set_option maxRecDepth 8192 in
theorem al_43 (h : Holds V0 s j) : (broadcastInDim S2x2x8x1x1 ![0, 1, 2] bcast_S2x2x8_S2x2x8x1x1_0_1_2 (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8) : (Proc.devRef .tc main_while0b_v143 : DevRef τ sig).ty.Contents (Elt F)) = Cert.ReferenceIdeal.Step.b43 j s := by
  unfold Cert.ReferenceIdeal.Step.b43
  rw [← al_11 h]
  try rfl
set_option maxRecDepth 8192 in
theorem al_44 (h : Holds V0 s j) : (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8)) : (Proc.devRef .tc main_while0b_v144 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (mulf (V0 (Proc.devRef .tc main_v108_7)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8))) : (Proc.devRef .tc main_while0b_v145 : DevRef τ sig).ty.Contents (Elt F)) = Cert.ReferenceIdeal.Step.b45 j s := by
  unfold Cert.ReferenceIdeal.Step.b45
  rw [← al_44 h, h.f_7]
  try rfl
set_option maxRecDepth 8192 in
theorem al_46 (h : Holds V0 s j) : (addf (mulf (V0 (Proc.devRef .tc main_v108_7)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8)))) (shapeCast S2x2x8x64x128 (Host.dynamicSlice S1x2x2x8x64x128 (V0 (Proc.devRef .tc main_v108_0)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x2x8x64x128_S1x2x2x8x64x128) shapeCasts_S1x2x2x8x64x128_S2x2x8x64x128) : (Proc.devRef .tc main_while0b_v146 : DevRef τ sig).ty.Contents (Elt F)) = Cert.ReferenceIdeal.Step.b46 j s := by
  unfold Cert.ReferenceIdeal.Step.b46
  rw [← al_45 h, ← al_6 h]
  try rfl
set_option maxRecDepth 8192 in
theorem al_47 (h : Holds V0 s j) : (addf (shapeCast S2x128x2x8x64 (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64) (mulf (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8)))) : (Proc.devRef .tc main_while0b_v147 : DevRef τ sig).ty.Contents (Elt F)) = Cert.ReferenceIdeal.Step.b47 j s := by
  unfold Cert.ReferenceIdeal.Step.b47
  rw [← al_30 h, ← al_42 h]
  try rfl
set_option maxRecDepth 8192 in
theorem al_48 (h : Holds V0 s j) : (addf (addf (shapeCast S2x128x2x8x64 (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64) (mulf (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8))))) (shapeCast S2x128x2x8x64 (Host.dynamicSlice S1x2x128x2x8x64 (V0 (Proc.devRef .tc main_v108_5)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64) : (Proc.devRef .tc main_while0b_v148 : DevRef τ sig).ty.Contents (Elt F)) = Cert.ReferenceIdeal.Step.b48 j s := by
  unfold Cert.ReferenceIdeal.Step.b48
  rw [← al_47 h, ← al_37 h]
  try rfl
set_option maxRecDepth 8192 in
theorem al_49 (h : Holds V0 s j) : (broadcastInDim S1x2x128x2x8x64 ![1, 2, 3, 4, 5] bcast_S2x128x2x8x64_S1x2x128x2x8x64_1_2_3_4_5 (addf (addf (shapeCast S2x128x2x8x64 (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64) (mulf (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8))))) (shapeCast S2x128x2x8x64 (Host.dynamicSlice S1x2x128x2x8x64 (V0 (Proc.devRef .tc main_v108_5)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64)) : (Proc.devRef .tc main_while0b_call11_v0 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constantI S_ 32 0#32 : (Proc.devRef .tc main_while0b_call11_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call11_c_0 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call11_c_1 : DevRef τ sig).ty.Contents (Elt F)) = Cert.ReferenceIdeal.Step.b52 j s := by
  unfold Cert.ReferenceIdeal.Step.b52
  rfl
set_option maxRecDepth 8192 in
theorem al_53 (h : Holds V0 s j) : (constantI S_ 32 0#32 : (Proc.devRef .tc main_while0b_call11_c_2 : DevRef τ sig).ty.Contents (Elt F)) = Cert.ReferenceIdeal.Step.b53 j s := by
  unfold Cert.ReferenceIdeal.Step.b53
  rfl
set_option maxRecDepth 8192 in
theorem al_54 (h : Holds V0 s j) : (constantI S_ 32 0#32 : (Proc.devRef .tc main_while0b_call11_c_3 : DevRef τ sig).ty.Contents (Elt F)) = Cert.ReferenceIdeal.Step.b54 j s := by
  unfold Cert.ReferenceIdeal.Step.b54
  rfl
set_option maxRecDepth 8192 in
theorem al_55 (h : Holds V0 s j) : (Host.dynamicUpdateSlice (V0 (Proc.devRef .tc main_v108_8)) (broadcastInDim S1x2x128x2x8x64 ![1, 2, 3, 4, 5] bcast_S2x128x2x8x64_S1x2x128x2x8x64_1_2_3_4_5 (addf (addf (shapeCast S2x128x2x8x64 (Host.dynamicSlice S1x2x128x2x8x64 (V0 (Proc.devRef .tc main_v108_4)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64) (mulf (transpose S2x128x2x8x64 [0, 4, 1, 2, 3] (Host.dotGeneral dot_S2x2x8x64x128_S2x128x2x128_S2x2x8x64x128_4_3_23_1_01_02 none (V0 (Proc.devRef .tc main_v108_7)) (shapeCast S2x128x2x128 (Host.dynamicSlice S1x2x128x2x128 (V0 (Proc.devRef .tc main_v108_2)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x128_S1x2x128x2x128) shapeCasts_S1x2x128x2x128_S2x128x2x128)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (shapeCast S2x128x2x8 (Host.dynamicSlice S1x2x128x2x8 (V0 (Proc.devRef .tc main_v108_3)) (fun k => (((![V0 (Proc.devRef .tc main_v108_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x128x2x8_S1x2x128x2x8) shapeCasts_S1x2x128x2x8_S2x128x2x8))))) (shapeCast S2x128x2x8x64 (Host.dynamicSlice S1x2x128x2x8x64 (V0 (Proc.devRef .tc main_v108_5)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x128x2x8x64_S1x2x128x2x8x64) shapeCasts_S1x2x128x2x8x64_S2x128x2x8x64))) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S128x2x128x2x8x64_S1x2x128x2x8x64 : (Proc.devRef .tc main_while0b_v149 : DevRef τ sig).ty.Contents (Elt F)) = Cert.ReferenceIdeal.Step.b55 j s := by
  unfold Cert.ReferenceIdeal.Step.b55
  rw [← al_49 h, ← al_50 h, ← al_51 h, ← al_52 h, ← al_53 h, ← al_54 h, h.f_8, h.n_6]
  try rfl

/-! One trip's step of the carried values is `step`, field by field; a counter steps to the next number. -/

theorem step_7 (h : Holds V0 s j) : step_main_v108_7 V0 = (step j s).main_v108_7 := by
  unfold step_main_v108_7 Cert.ReferenceIdeal.Step.step
  show id (addf (mulf (V0 (Proc.devRef .tc main_v108_7)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (shapeCast S2x2x8 (Host.dynamicSlice S1x2x2x8 (V0 (Proc.devRef .tc main_v108_1)) (fun k => (((![V0 (Proc.devRef .tc main_v108_6), constantI S_ 32 0#32, constantI S_ 32 0#32, constantI S_ 32 0#32] : Fin 4 → (⟨S_, .i32⟩ : BufTy).Contents (Elt F))) k (Shape.Idx.first h_S_)).toInt) sliceFits_S128x2x2x8_S1x2x2x8) shapeCasts_S1x2x2x8_S2x2x8)))) (shapeCast S2x2x8x64x128 (Host.dynamicSlice S1x2x2x8x64x128 (V0 (Proc.devRef .tc main_v108_0)) (fun k => (((![V0 (Proc.devRef .tc main_v108_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x2x2x8x64x128_S1x2x2x8x64x128) shapeCasts_S1x2x2x8x64x128_S2x2x8x64x128)) = _
  rw [al_46 h]
  try rfl
theorem step_8 (h : Holds V0 s j) : step_main_v108_8 V0 = (step j s).main_v108_8 := by
  unfold step_main_v108_8 Cert.ReferenceIdeal.Step.step
  exact al_55 h
theorem step_6 (h : Holds V0 s j) : step_main_v108_6 V0 = constantI S_ 32 (BitVec.ofNat 32 (j + 1)) := by
  unfold step_main_v108_6
  rw [h.n_6]
  funext i
  show BitVec.ofNat 32 j + 1#32 = BitVec.ofNat 32 (j + 1)
  simp only [BitVec.ofNat_add]

set_option maxRecDepth 8192 in
theorem out_main_v131_holds (h : Holds V0 s j) {x_main_arg0 : (⟨S32768x6144, .f32⟩ : BufTy).Contents (Elt F)} (h_main_arg0 : V0 (Proc.devRef .tc main_arg0) = x_main_arg0) {x_main_arg6 : (⟨S1024, .f32⟩ : BufTy).Contents (Elt F)} (h_main_arg6 : V0 (Proc.devRef .tc main_arg6) = x_main_arg6) : out_main_v131 V0 = Cert.ReferenceIdeal.Step.R_main_v131 s x_main_arg0 x_main_arg6 := by
  unfold out_main_v131 Cert.ReferenceIdeal.Step.R_main_v131
  rw [h.f_8, h_main_arg0, h_main_arg6]
  try rfl

/-- One trip keeps the valuation holding: `step` of the state, the same set-up values, the next number. -/
theorem holds_step (h : Holds V0 s j) : Holds (STEP V0) (step j s) (j + 1) where
  f_7 := (STEP_main_v108_7 V0).trans (step_7 h)
  f_8 := (STEP_main_v108_8 V0).trans (step_8 h)
  n_6 := (STEP_main_v108_6 V0).trans (step_6 h)
  f_0 := (STEP_main_v108_0 V0).trans h.f_0
  f_1 := (STEP_main_v108_1 V0).trans h.f_1
  f_2 := (STEP_main_v108_2 V0).trans h.f_2
  f_3 := (STEP_main_v108_3 V0).trans h.f_3
  f_4 := (STEP_main_v108_4 V0).trans h.f_4
  f_5 := (STEP_main_v108_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 1100000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v131) = Cert.ReferenceIdeal.Step.R_main_v131 (it c 128) (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 128
    ⟨(h c).1.trans (out_main_v131_holds hk (iter_main_arg0 m c 128) (iter_main_arg6 m c 128)), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.Steps

end
-- ==== Proof.KerRows.lean ====
/-
  Arrays stored one head at a time: the states by their first coordinate, the outputs by blocks of 64 columns.
-/
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ssd.Ker

open Cert.KernelIdeal Cert.KernelIdeal.Gen Idealize.ShloMosaic Idealize.ShloMosaic.TcCoe Idealize.SL.Sem

/-- A load of one head's state does not see a store of another head's. -/
theorem row_of_ne {sig : RefSig} {κ : Kind} {sp : Space} (v : View sig κ sp S16x128x64 .f32) (i j : ℕ) (h : i ≠ j)
    (hi : ∀ a, ![i, 0, 0] a + ![1, 128, 64] a ≤ S16x128x64.size a) (hj : ∀ a, ![j, 0, 0] a + ![1, 128, 64] a ≤ S16x128x64.size a)
    (w : (Rect.unit (s := S16x128x64) ![i, 0, 0] ![1, 128, 64] hi).shape.Idx → EReal) (L : List (View.Piece (Elt Ideal) S16x128x64 .f32)) :
    v.readCov ((⟨Rect.unit ![i, 0, 0] ![1, 128, 64] hi, w⟩ : View.Piece (Elt Ideal) S16x128x64 .f32) :: L)
        (Rect.unit (s := S16x128x64) ![j, 0, 0] ![1, 128, 64] hj).toLoadRect
      = v.readCov L (Rect.unit (s := S16x128x64) ![j, 0, 0] ![1, 128, 64] hj).toLoadRect := by
  refine View.readCov_cons_of_disjoint _ _ _ _ ?_
  rw [Finset.disjoint_left]
  intro y hy hy'
  change y ∈ (Rect.unit (s := S16x128x64) ![i, 0, 0] ![1, 128, 64] hi).set at hy
  change y ∈ (Rect.unit (s := S16x128x64) ![j, 0, 0] ![1, 128, 64] hj).set at hy'
  rw [Rect.mem_set_unit] at hy hy'
  have e1 : i ≤ (y 0).val ∧ (y 0).val < i + 1 := hy 0
  have e2 : j ≤ (y 0).val ∧ (y 0).val < j + 1 := hy' 0
  omega

/-- A load of one head's state after the whole array was stored. -/
theorem row_base {sig : RefSig} {κ : Kind} {sp : Space} (v : View sig κ sp S16x128x64 .f32) (j : ℕ)
    (hi : ∀ a, ![0, 0, 0] a + ![16, 128, 64] a ≤ S16x128x64.size a) (hj : ∀ a, ![j, 0, 0] a + ![1, 128, 64] a ≤ S16x128x64.size a)
    (w : FVec Ideal S16x128x64 .f32) :
    v.readCov [(⟨Rect.unit ![0, 0, 0] ![16, 128, 64] hi, w⟩ : View.Piece (Elt Ideal) S16x128x64 .f32)]
        (Rect.unit (s := S16x128x64) ![j, 0, 0] ![1, 128, 64] hj).toLoadRect
      = View.ld w (Rect.unit (s := S16x128x64) ![j, 0, 0] ![1, 128, 64] hj) := by
  have hz : (![0, 0, 0] : Fin 3 → ℕ) = fun _ => 0 := by funext a; fin_cases a <;> rfl
  refine (View.readCov_eq_canon_ld _ _ _ fun y => ⟨_, List.mem_singleton_self _, ?_⟩).trans ?_
  · rw [Rect.mem_set_unit]
    have h0 : (y 0).val < 16 := (y 0).isLt
    have h1 : (y 1).val < 128 := (y 1).isLt
    have h2 : (y 2).val < 64 := (y 2).isLt
    intro a
    fin_cases a <;> refine ⟨Nat.zero_le _, ?_⟩
    · show (y 0).val < 0 + 16; omega
    · show (y 1).val < 0 + 128; omega
    · show (y 2).val < 0 + 64; omega
  · have e : View.canon [(⟨Rect.unit ![0, 0, 0] ![16, 128, 64] hi, w⟩ : View.Piece (Elt Ideal) S16x128x64 .f32)] = w := by
      funext y
      have e' : (Rect.unit (s := S16x128x64) ![0, 0, 0] ![16, 128, 64] hi).emb y = y := by
        refine funext fun a => Fin.ext ?_
        fin_cases a
        · show 0 + 1 * (y 0).val = (y 0).val; omega
        · show 0 + 1 * (y 1).val = (y 1).val; omega
        · show 0 + 1 * (y 2).val = (y 2).val; omega
      have e2 := View.canon_cons_emb (Val := Elt Ideal) (s := S16x128x64) (e := .f32) (Rect.unit ![0, 0, 0] ![16, 128, 64] hi) w [] y
      rw [e'] at e2
      exact e2
    rw [e]

/-- A list of stores of heads' states, read at an entry. -/
theorem canon_row (i : ℕ) (hi : ∀ a, ![i, 0, 0] a + ![1, 128, 64] a ≤ S16x128x64.size a)
    (w : (Rect.unit (s := S16x128x64) ![i, 0, 0] ![1, 128, 64] hi).shape.Idx → EReal) (L : List (View.Piece (Elt Ideal) S16x128x64 .f32))
    (d : Fin 16) (n : Fin 128) (p : Fin 64) :
    View.canon ((⟨Rect.unit ![i, 0, 0] ![1, 128, 64] hi, w⟩ : View.Piece (Elt Ideal) S16x128x64 .f32) :: L) (ix3 d n p)
      = if d.val = i then w (ix3 0 n p) else View.canon L (ix3 d n p) := by
  split
  · next h =>
    have e : ix3 d n p = (Rect.unit (s := S16x128x64) ![i, 0, 0] ![1, 128, 64] hi).emb (ix3 (0 : Fin 1) n p) := by
      funext a; apply Fin.ext
      fin_cases a
      · show d.val = i + 1 * 0; omega
      · show n.val = 0 + 1 * n.val; omega
      · show p.val = 0 + 1 * p.val; omega
    rw [e]
    exact View.canon_cons_emb _ w L _
  · next h =>
    refine View.canon_cons_of_not_mem _ L ?_
    intro hy
    change _ ∈ (Rect.unit (s := S16x128x64) ![i, 0, 0] ![1, 128, 64] hi).set at hy
    rw [Rect.mem_set_unit] at hy
    have e1 : i ≤ d.val ∧ d.val < i + 1 := hy 0
    omega

/-- A list of stores of heads' outputs, read at an entry. -/
theorem canon_col (i : ℕ) (hi : ∀ a, ![0, 64 * i] a + ![128, 64] a ≤ S128x1024.size a)
    (w : FVec Ideal S128x64 .f32) (L : List (View.Piece (Elt Ideal) S128x1024 .f32)) (l : Fin 128) (d : Fin 16) (p : Fin 64) :
    (View.canon ((⟨Rect.unit ![0, 64 * i] ![128, 64] hi, w⟩ : View.Piece (Elt Ideal) S128x1024 .f32) :: L)
        (ix2 l (⟨64 * d.val + p.val, by omega⟩ : Fin 1024)) : EReal)
      = if d.val = i then w (ix2 l p) else View.canon L (ix2 l (⟨64 * d.val + p.val, by omega⟩ : Fin 1024)) := by
  split
  · next h =>
    have e : (Rect.unit (s := S128x1024) ![0, 64 * i] ![128, 64] hi).emb (ix2 l p) = ix2 l (⟨64 * d.val + p.val, by omega⟩ : Fin 1024) := by
      refine funext fun a => Fin.ext ?_
      fin_cases a
      · show 0 + 1 * l.val = l.val; omega
      · show 64 * i + 1 * p.val = 64 * d.val + p.val; omega
    rw [← e]
    exact View.canon_cons_emb (Val := Elt Ideal) (s := S128x1024) (e := .f32) (Rect.unit ![0, 64 * i] ![128, 64] hi) w L (ix2 l p)
  · next h =>
    refine View.canon_cons_of_not_mem _ _ fun hy => ?_
    change _ ∈ (Rect.unit (s := S128x1024) ![0, 64 * i] ![128, 64] hi).set at hy
    rw [Rect.mem_set_unit] at hy
    have e1 : 64 * i ≤ 64 * d.val + p.val ∧ 64 * d.val + p.val < 64 * i + 64 := hy 1
    omega

/-- The same, by the first column of the block. -/
theorem canon_col_if (o : ℕ) (ho : 64 * (o / 64) = o) (hi : ∀ a, ![0, o] a + ![128, 64] a ≤ S128x1024.size a)
    (w : FVec Ideal S128x64 .f32) (L : List (View.Piece (Elt Ideal) S128x1024 .f32)) (l : Fin 128) (d : Fin 16) (p : Fin 64) :
    (View.canon ((⟨Rect.unit ![0, o] ![128, 64] hi, w⟩ : View.Piece (Elt Ideal) S128x1024 .f32) :: L)
        (ix2 l (⟨64 * d.val + p.val, by omega⟩ : Fin 1024)) : EReal)
      = if d.val = o / 64 then w (ix2 l p) else View.canon L (ix2 l (⟨64 * d.val + p.val, by omega⟩ : Fin 1024)) := by
  generalize o / 64 = i at ho
  subst ho
  exact canon_col i hi w L l d p

/-- A load of all the outputs after a list of stores. -/
theorem readCov_cols {sg : RefSig} {κ : Kind} {sp : Space} (v : View sg κ sp S128x1024 .f32)
    (h : ∀ a, ![0, 0] a + ![128, 1024] a ≤ S128x1024.size a) (L : List (View.Piece (Elt Ideal) S128x1024 .f32)) (l : Fin 128) (q : Fin 1024) :
    (v.readCov L (Rect.unit (s := S128x1024) ![0, 0] ![128, 1024] h).toLoadRect (ix2 l q) : EReal) = View.canon L (ix2 l q) := by
  have e : (Rect.unit (s := S128x1024) ![0, 0] ![128, 1024] h).toLoadRect.idx (ix2 l q) = ix2 l q := by
    refine funext fun a => Fin.ext ?_
    fin_cases a
    · show 0 + 1 * l.val = l.val; omega
    · show 0 + 1 * q.val = q.val; omega
  refine (congrFun (View.readCov_eq_canon' v L (Rect.unit (s := S128x1024) ![0, 0] ![128, 1024] h).toLoadRect) (ix2 l q)).trans ?_
  exact congrArg (View.canon (Val := Elt Ideal) (s := S128x1024) (e := .f32) L) e

/-- To read a list of stores at an entry, read the newest where it covers the entry and the others elsewhere. -/
theorem canon_col_step (o : ℕ) (ho : 64 * (o / 64) = o) (hi : ∀ a, ![0, o] a + ![128, 64] a ≤ S128x1024.size a)
    (w : FVec Ideal S128x64 .f32) (L : List (View.Piece (Elt Ideal) S128x1024 .f32)) (l : Fin 128) (d : Fin 16) (p : Fin 64) (y : EReal)
    (h1 : ¬d.val = o / 64 → (View.canon L (ix2 l (⟨64 * d.val + p.val, by omega⟩ : Fin 1024)) : EReal) = y)
    (h2 : d.val = o / 64 → (w (ix2 l p) : EReal) = y) :
    (View.canon ((⟨Rect.unit ![0, o] ![128, 64] hi, w⟩ : View.Piece (Elt Ideal) S128x1024 .f32) :: L)
        (ix2 l (⟨64 * d.val + p.val, by omega⟩ : Fin 1024)) : EReal) = y :=
  (canon_col_if o ho hi w L l d p).trans (ite_eq_iff'.2 ⟨h2, h1⟩)

end Cert.Ssd.Ker

end
-- ==== Proof.Spec.lean ====
/-
  The chunked SSD recurrence in plain mathematics, over the extended reals: what one chunk of 128 rows computes from the
  projection, and how the state passes from one chunk to the next. Both programs are shown to compute `out`.
-/
module

public import Idealize.ShloMosaic.Lib.Pipeline.ValueKit
public import Idealize.ShloMosaic.Lib.Pointwise

@[expose] public section

noncomputable section

namespace Cert.Ssd

open Idealize.ShloMosaic

/-- The arguments as functions: the projection, the four convolution taps and their bias, the bias of the step sizes, the
    logarithms of the decay rates, the skip weights and the gains of the normalisation. -/
structure Inp where
  h : Fin 32768 → Fin 6144 → EReal
  cw : Fin 4 → Fin 1536 → EReal
  cb : Fin 1536 → EReal
  dtb : Fin 16 → EReal
  al : Fin 16 → EReal
  ds : Fin 16 → EReal
  ng : Fin 1024 → EReal

variable (X : Inp)

/-- `x · 1/(1 + e^(-x))`. -/
def silu (x : EReal) : EReal := x * Ideal.div 1 (1 + Ideal.exp (-x))

/-- `max(x, 0) + log(1 + e^(-|x|))`. -/
def softplus (x : EReal) : EReal := max x 0 + Ideal.log1p (Ideal.exp (-(max x (-x))))

/-- The convolution's input `k` rows before row `l` of chunk `t`, zero where that row is before the sequence's first.
    A sequence is 128 chunks, so chunk `t` starts at row `128 · (t mod 128)` of its sequence. -/
def tap (t : Fin 256) (l : Fin 128) (k : ℕ) (ch : Fin 1536) : EReal :=
  if k ≤ 128 * (t.val % 128) + l.val then X.h ⟨128 * t.val + l.val - k, by omega⟩ ⟨1536 + ch.val, by omega⟩ else 0

/-- The causal depthwise convolution of four taps, then `silu`. -/
def act (t : Fin 256) (l : Fin 128) (ch : Fin 1536) : EReal :=
  silu (X.cb ch + X.cw 3 ch * tap X t l 0 ch + X.cw 2 ch * tap X t l 1 ch + X.cw 1 ch * tap X t l 2 ch + X.cw 0 ch * tap X t l 3 ch)

/-- The step size of head `d` at row `l` of chunk `t`. -/
def dt (t : Fin 256) (l : Fin 128) (d : Fin 16) : EReal :=
  softplus (X.h ⟨128 * t.val + l.val, by omega⟩ ⟨5760 + d.val, by omega⟩ + X.dtb d)

/-- The decay's logarithm summed over the chunk's rows up to `l`. -/
def acs (t : Fin 256) (l : Fin 128) (d : Fin 16) : EReal :=
  ∑ s : Fin 128, if s ≤ l then dt X t s d * -Ideal.exp (X.al d) else 0

/-- Head `d`'s inputs, and its group's input and output projections of the state (eight heads to a group). -/
def xh (t : Fin 256) (l : Fin 128) (d : Fin 16) (p : Fin 64) : EReal := act X t l ⟨64 * d.val + p.val, by omega⟩
@[inherit_doc xh] def bm (t : Fin 256) (l : Fin 128) (d : Fin 16) (n : Fin 128) : EReal := act X t l ⟨1024 + 128 * (d.val / 8) + n.val, by omega⟩
@[inherit_doc xh] def cm (t : Fin 256) (l : Fin 128) (d : Fin 16) (n : Fin 128) : EReal := act X t l ⟨1280 + 128 * (d.val / 8) + n.val, by omega⟩

/-- The contribution to row `l` of the chunk's own rows up to `l`. -/
def yDiag (t : Fin 256) (l : Fin 128) (d : Fin 16) (p : Fin 64) : EReal :=
  ∑ s : Fin 128, (∑ n : Fin 128, cm X t l d n * bm X t s d n) * Ideal.exp (if s ≤ l then acs X t l d - acs X t s d else ⊥)
    * (xh X t s d p * dt X t s d)

/-- What chunk `t` adds to the state. -/
def dState (t : Fin 256) (d : Fin 16) (n : Fin 128) (p : Fin 64) : EReal :=
  ∑ l : Fin 128, bm X t l d n * (xh X t l d p * dt X t l d * Ideal.exp (acs X t 127 d - acs X t l d))

/-- The state after chunk `t`, from the state `S` before it. -/
def stNext (t : Fin 256) (S : Fin 16 → Fin 128 → Fin 64 → EReal) (d : Fin 16) (n : Fin 128) (p : Fin 64) : EReal :=
  S d n p * Ideal.exp (acs X t 127 d) + dState X t d n p

/-- The state before chunk `t`: zero at the start of a sequence, else what the chunk before leaves. -/
def st : ℕ → Fin 16 → Fin 128 → Fin 64 → EReal
  | 0 => fun _ _ _ => 0
  | t + 1 => if (t + 1) % 128 = 0 then fun _ _ _ => 0 else stNext X ⟨t % 256, Nat.mod_lt _ (by decide)⟩ (st t)

/-- A head's output from the state `S` before the chunk: the chunk's own rows, the state, and the skip term. -/
def yOf (t : Fin 256) (S : Fin 16 → Fin 128 → Fin 64 → EReal) (l : Fin 128) (d : Fin 16) (p : Fin 64) : EReal :=
  yDiag X t l d p + (∑ n : Fin 128, cm X t l d n * S d n p) * Ideal.exp (acs X t l d) + xh X t l d p * X.ds d

/-- The output of column `q` gated by `silu` of the projection's column `q`. -/
def gated (t : Fin 256) (S : Fin 16 → Fin 128 → Fin 64 → EReal) (l : Fin 128) (q : Fin 1024) : EReal :=
  yOf X t S l ⟨q.val / 64, by omega⟩ ⟨q.val % 64, by omega⟩ * silu (X.h ⟨128 * t.val + l.val, by omega⟩ ⟨q.val, by omega⟩)

/-- The gated output normalised by the mean square of its group of 512 columns, times the gains. -/
def normed (t : Fin 256) (S : Fin 16 → Fin 128 → Fin 64 → EReal) (l : Fin 128) (q : Fin 1024) : EReal :=
  gated X t S l q * Ideal.rsqrt (Ideal.div (∑ j : Fin 512, gated X t S l ⟨512 * (q.val / 512) + j.val, by omega⟩
      * gated X t S l ⟨512 * (q.val / 512) + j.val, by omega⟩) (Ideal.ofBits FTy.f32 0x44000000#32) + Ideal.ofBits FTy.f32 0x3727C5AC#32) * X.ng q

/-- The arguments as arrays. -/
def inp (h : FVec Ideal ⟨2, ![32768, 6144]⟩ .f32) (cw : FVec Ideal ⟨2, ![4, 1536]⟩ .f32) (cb : FVec Ideal ⟨1, ![1536]⟩ .f32)
    (dtb al ds : FVec Ideal ⟨1, ![16]⟩ .f32) (ng : FVec Ideal ⟨1, ![1024]⟩ .f32) : Inp where
  h r k := h (ix2 r k)
  cw i ch := cw (ix2 i ch)
  cb ch := cb (ix1 ch)
  dtb d := dtb (ix1 d)
  al d := al (ix1 d)
  ds d := ds (ix1 d)
  ng q := ng (ix1 q)

/-- Chunk `c` of sequence `b`. -/
def tc (b : Fin 2) (c : Fin 128) : Fin 256 := ⟨128 * b.val + c.val, by omega⟩

/-- Row `l` of chunk `c` in its sequence. -/
def row (c l : Fin 128) : Fin 16384 := ⟨128 * c.val + l.val, by omega⟩

/-- Head `j` of group `g`. -/
def hd (g : Fin 2) (j : Fin 8) : Fin 16 := ⟨8 * g.val + j.val, by omega⟩

/-- The format's word for minus infinity. -/
theorem ofBits_neg_inf : Ideal.ofBits FTy.f32 4286578688#32 = ⊥ := by
  simp [Ideal.ofBits, Ideal.ieee]

/-- Choosing by the signed comparison of two row numbers is choosing by their order. -/
theorem select_sle {α : Type} (l s : Fin 128) (a b : α) :
    Scalar.select (IntOp.cmpi .sle (BitVec.ofNat 32 s.val) (BitVec.ofNat 32 l.val)) a b = if s ≤ l then a else b := by
  have h : ∀ l s : Fin 128, IntOp.cmpi .sle (BitVec.ofNat 32 s.val) (BitVec.ofNat 32 l.val) = if s ≤ l then 1#1 else 0#1 := by decide +kernel
  rw [h]; split <;> rfl

@[inherit_doc select_sle] theorem select_sge {α : Type} (l s : Fin 128) (a b : α) :
    Scalar.select (IntOp.cmpi .sge (BitVec.ofNat 32 l.val) (BitVec.ofNat 32 s.val)) a b = if s ≤ l then a else b := by
  have h : ∀ l s : Fin 128, IntOp.cmpi .sge (BitVec.ofNat 32 l.val) (BitVec.ofNat 32 s.val) = if s ≤ l then 1#1 else 0#1 := by decide +kernel
  rw [h]; split <;> rfl

/-- Row `l` of chunk `t` of the layer's SSD branch. -/
def out (t : Fin 256) (l : Fin 128) (q : Fin 1024) : EReal := normed X t (st X t.val) l q

end Cert.Ssd

end
-- ==== Proof.KerBlocks.lean ====
/-
  What each block of the kernel holds at grid point `t`: the arguments' entries, directly or through the host lines that
  pad, reshape and repeat the small ones.
-/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ssd.Ker

open Cert.KernelIdeal Cert.KernelIdeal.Gen Idealize.ShloMosaic Idealize.ShloMosaic.TcCoe Idealize.SL.Sem

variable (m : (ℓ : Loc nD τ sig) → Buf (Elt Ideal) ℓ)

/-- Point `t` reads row block `t` of the projection, at columns 0, 1536 and 5760; the other blocks are whole arrays. -/
theorem idx : ∀ t : Fin cfg0.N, win0_0.index t = ![t.val, 0] ∧ win0_1.index t = ![t.val, 1] ∧ win0_2.index t = ![t.val, 45]
    ∧ win0_3.index t = ![0, 0] ∧ win0_4.index t = ![0, 0] ∧ win0_5.index t = ![0, 0] ∧ win0_6.index t = ![0, 0] ∧ win0_7.index t = ![0, 0]
    ∧ win0_8.index t = ![0, 0] :=
  (by decide +kernel : ∀ t : Fin grid0.N, _)

/-- The arguments as functions. -/
def XK (c : Dev nD) : Inp :=
  inp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The chunk of point `t`. -/
def ct (t : Fin cfg0.N) : Fin 256 := ⟨t.val, lt_of_lt_of_eq t.isLt N_0⟩

/-- The gate's columns. -/
theorem blk0 (c : Dev nD) (t : Fin cfg0.N) (l : Fin 128) (q : Fin 1024) :
    (iblk m c 0 t (ix2 l q) : EReal) = (XK m c).h ⟨128 * (ct t).val + l.val, by omega⟩ ⟨q.val, by omega⟩ := by
  blk_point [iblk, V, idx t, XK, inp, ct]

/-- The convolution's columns. -/
theorem blk1 (c : Dev nD) (t : Fin cfg0.N) (l : Fin 128) (q : Fin 1536) :
    (iblk m c 1 t (ix2 l q) : EReal) = (XK m c).h ⟨128 * (ct t).val + l.val, by omega⟩ ⟨1536 + q.val, by omega⟩ := by
  blk_point [iblk, V, idx t, XK, inp, ct]

/-- The step sizes' columns. -/
theorem blk2 (c : Dev nD) (t : Fin cfg0.N) (l : Fin 128) (q : Fin 16) :
    (iblk m c 2 t (ix2 l (⟨q.val, by omega⟩ : Fin 128)) : EReal) = (XK m c).h ⟨128 * (ct t).val + l.val, by omega⟩ ⟨5760 + q.val, by omega⟩ := by
  blk_point [iblk, V, idx t, XK, inp, ct]

/-- The taps' weights. -/
theorem blk3 (c : Dev nD) (t : Fin cfg0.N) (i : Fin 4) (q : Fin 1536) : (iblk m c 3 t (ix2 i q) : EReal) = (XK m c).cw i q := by
  blk_point [iblk, V, idx t, XK, inp]

/-- The convolution's bias as the host reshapes it. -/
theorem V_bias (c : Dev nD) : (V m c main_v9 : S1x1536.Idx → EReal)
    = shapeCast S1x1536 (m ((c : Thread nD τ).loc main_arg2) : S1536.Idx → EReal) shapeCasts_S1536_S1x1536 := by
  unfold V
  simp only [hostOps0, hostOps0_1, hostOps0_2, hostOps0_3, hostOps0_4, List.flatten_cons, List.flatten_nil, List.append_nil, List.cons_append, List.nil_append]
  after_results
  rfl

/-- The gains as the host reshapes them. -/
theorem V_gain (c : Dev nD) : (V m c main_v10 : S1x1024.Idx → EReal)
    = shapeCast S1x1024 (m ((c : Thread nD τ).loc main_arg6) : S1024.Idx → EReal) shapeCasts_S1024_S1x1024 := by
  unfold V
  simp only [hostOps0, hostOps0_1, hostOps0_2, hostOps0_3, hostOps0_4, List.flatten_cons, List.flatten_nil, List.append_nil, List.cons_append, List.nil_append]
  after_results
  rfl

/-- The skip weights repeated over a head's columns. -/
theorem V_skip (c : Dev nD) : (V m c main_v8 : S1x1024.Idx → EReal)
    = shapeCast S1x1024 (shapeCast S1024 (broadcastInDim S16x64 ![0] bcast_S16_S16x64_0 (m ((c : Thread nD τ).loc main_arg5) : S16.Idx → EReal))
        shapeCasts_S16x64_S1024) shapeCasts_S1024_S1x1024 := by
  unfold V
  simp only [hostOps0, hostOps0_1, hostOps0_2, hostOps0_3, hostOps0_4, List.flatten_cons, List.flatten_nil, List.append_nil, List.cons_append, List.nil_append]
  after_results
  rfl

/-- The step sizes' bias padded to 128 lanes. -/
theorem V_dtb (c : Dev nD) : (V m c main_v1 : FVec Ideal S1x128 .f32)
    = shapeCast S1x128 (pad S128 ![0] ![112] ![0] (m ((c : Thread nD τ).loc main_arg3) : FVec Ideal S16 .f32)
        (sitofp (F := Ideal) FTy.f32 (constantI S_ 32 0#32)) pads_S16_S128_01120 h_S_) shapeCasts_S128_S1x128 := by
  unfold V
  simp only [hostOps0, hostOps0_1, hostOps0_2, hostOps0_3, hostOps0_4, List.flatten_cons, List.flatten_nil, List.append_nil, List.cons_append, List.nil_append]
  after_results
  rfl

/-- The decay rates padded to 128 lanes. -/
theorem V_rate (c : Dev nD) : (V m c main_v5 : FVec Ideal S1x128 .f32)
    = shapeCast S1x128 (pad S128 ![0] ![112] ![0] (Host.negf (Host.exp (m ((c : Thread nD τ).loc main_arg4) : FVec Ideal S16 .f32)))
        (sitofp (F := Ideal) FTy.f32 (constantI S_ 32 0#32)) pads_S16_S128_01120 h_S_) shapeCasts_S128_S1x128 := by
  unfold V
  simp only [hostOps0, hostOps0_1, hostOps0_2, hostOps0_3, hostOps0_4, List.flatten_cons, List.flatten_nil, List.append_nil, List.cons_append, List.nil_append]
  after_results
  rfl

/-- The convolution's bias. -/
theorem blk4 (c : Dev nD) (t : Fin cfg0.N) (q : Fin 1536) : (iblk m c 4 t (ix2 (0 : Fin 1) q) : EReal) = (XK m c).cb q := by
  have e : (iblk m c 4 t (ix2 (0 : Fin 1) q) : EReal) = (V m c main_v9 : S1x1536.Idx → EReal) (ix2 (0 : Fin 1) q) := by
    show (V m c main_v9 : S1x1536.Idx → EReal) _ = _
    refine congrArg _ ?_
    blk_ext [idx t]
  rw [e, V_bias]
  pointwise
  rfl

/-- The gains. -/
theorem blk8 (c : Dev nD) (t : Fin cfg0.N) (q : Fin 1024) : (iblk m c 8 t (ix2 (0 : Fin 1) q) : EReal) = (XK m c).ng q := by
  have e : (iblk m c 8 t (ix2 (0 : Fin 1) q) : EReal) = (V m c main_v10 : S1x1024.Idx → EReal) (ix2 (0 : Fin 1) q) := by
    show (V m c main_v10 : S1x1024.Idx → EReal) _ = _
    refine congrArg _ ?_
    blk_ext [idx t]
  rw [e, V_gain]
  pointwise
  rfl

/-- The skip weights, one for each head's 64 columns. -/
theorem blk7 (c : Dev nD) (t : Fin cfg0.N) (q : Fin 1024) : (iblk m c 7 t (ix2 (0 : Fin 1) q) : EReal) = (XK m c).ds ⟨q.val / 64, by omega⟩ := by
  have e : (iblk m c 7 t (ix2 (0 : Fin 1) q) : EReal) = (V m c main_v8 : S1x1024.Idx → EReal) (ix2 (0 : Fin 1) q) := by
    show (V m c main_v8 : S1x1024.Idx → EReal) _ = _
    refine congrArg _ ?_
    blk_ext [idx t]
  rw [e, V_skip]
  pointwise
  rfl

/-- The step sizes' bias, on the lanes that the heads use. -/
theorem blk5 (c : Dev nD) (t : Fin cfg0.N) (d : Fin 16) : (iblk m c 5 t (ix2 (0 : Fin 1) (⟨d.val, by omega⟩ : Fin 128)) : EReal) = (XK m c).dtb d := by
  have e : (iblk m c 5 t (ix2 (0 : Fin 1) (⟨d.val, by omega⟩ : Fin 128)) : EReal) = (V m c main_v1 : S1x128.Idx → EReal) (ix2 (0 : Fin 1) (⟨d.val, by omega⟩ : Fin 128)) := by
    show (V m c main_v1 : S1x128.Idx → EReal) _ = _
    refine congrArg _ ?_
    blk_ext [idx t]
  rw [e, V_dtb]
  pointwise
  refine dif_pos fun a => ?_
  fin_cases a
  show d.val < 16; omega

/-- The decay rates, on the lanes that the heads use. -/
theorem blk6 (c : Dev nD) (t : Fin cfg0.N) (d : Fin 16) : (iblk m c 6 t (ix2 (0 : Fin 1) (⟨d.val, by omega⟩ : Fin 128)) : EReal) = -Ideal.exp ((XK m c).al d) := by
  have e : (iblk m c 6 t (ix2 (0 : Fin 1) (⟨d.val, by omega⟩ : Fin 128)) : EReal) = (V m c main_v5 : S1x128.Idx → EReal) (ix2 (0 : Fin 1) (⟨d.val, by omega⟩ : Fin 128)) := by
    show (V m c main_v5 : S1x128.Idx → EReal) _ = _
    refine congrArg _ ?_
    blk_ext [idx t]
  rw [e, V_rate]
  pointwise
  refine dif_pos fun a => ?_
  fin_cases a
  show d.val < 16; omega

end Cert.Ssd.Ker

end
-- ==== Proof.KerScratch.lean ====
/-
  The scratch of the convolution: eight rows carried over from the chunk before, then the chunk's own rows; and the taps that are loaded
  from it.
-/
module

public import proofs.«01_k».proof.Proof.KerBlocks
public import Idealize.ShloMosaic.Lib.WritesUnit

@[expose] public section

set_option maxRecDepth 16384

noncomputable section

namespace Cert.Ssd.Ker

open Cert.KernelIdeal Cert.KernelIdeal.Gen Idealize.ShloMosaic Idealize.ShloMosaic.TcCoe Idealize.SL.Sem

variable (m : (ℓ : Loc nD τ sig) → Buf (Elt Ideal) ℓ)

/-- A list of writes of whole rows of the scratch, read at a row. -/
theorem canon_rows (o n : ℕ) (h : ∀ a, ![o, 0] a + ![n, 1536] a ≤ S136x1536.size a) (w : FVec Ideal ⟨2, ![n, 1536]⟩ .f32)
    (L : List (View.Piece (Elt Ideal) S136x1536 .f32)) (y : Fin 136) (ch : Fin 1536) :
    (View.canon ((⟨Rect.unit ![o, 0] ![n, 1536] h, w⟩ : View.Piece (Elt Ideal) S136x1536 .f32) :: L) (ix2 y ch) : EReal)
    = if hy : o ≤ y.val ∧ y.val < o + n then w (ix2 (⟨y.val - o, by omega⟩ : Fin n) ch) else View.canon L (ix2 y ch) := by
  split
  · next hy =>
    have e : (Rect.unit (s := S136x1536) ![o, 0] ![n, 1536] h).emb (ix2 (⟨y.val - o, by omega⟩ : Fin n) ch) = ix2 y ch := by
      refine funext fun a => Fin.ext ?_
      fin_cases a
      · show o + 1 * (y.val - o) = y.val; omega
      · show 0 + 1 * ch.val = ch.val; omega
    rw [← e]
    exact View.canon_cons_emb (Val := Elt Ideal) (s := S136x1536) (e := .f32) (Rect.unit ![o, 0] ![n, 1536] h) w L _
  · next hy =>
    refine View.canon_cons_of_not_mem _ _ fun hm => hy ?_
    change _ ∈ (Rect.unit (s := S136x1536) ![o, 0] ![n, 1536] h).set at hm
    rw [Rect.mem_set_unit] at hm
    exact hm 0

/-- A load of whole rows of the scratch after a list of writes. -/
theorem readCov_rows {sg : RefSig} {κ : Kind} {sp : Space} (v : View sg κ sp S136x1536 .f32) (r n : ℕ)
    (hr : ∀ a, ![r, 0] a + ![n, 1536] a ≤ S136x1536.size a) (L : List (View.Piece (Elt Ideal) S136x1536 .f32)) (l : Fin n) (ch : Fin 1536) (hl : r + l.val < 136) :
    (v.readCov L (Rect.unit (s := S136x1536) ![r, 0] ![n, 1536] hr).toLoadRect (ix2 l ch) : EReal) = View.canon L (ix2 (⟨r + l.val, hl⟩ : Fin 136) ch) := by
  have e : (Rect.unit (s := S136x1536) ![r, 0] ![n, 1536] hr).toLoadRect.idx (ix2 l ch) = ix2 (⟨r + l.val, hl⟩ : Fin 136) ch := by
    refine funext fun a => Fin.ext ?_
    fin_cases a
    · show r + 1 * l.val = r + l.val; omega
    · show 0 + 1 * ch.val = ch.val; omega
  rw [← e]
  exact congrFun (View.readCov_eq_canon' v L (Rect.unit (s := S136x1536) ![r, 0] ![n, 1536] hr).toLoadRect) (ix2 l ch)

/-- What is stored of the block is the block. -/
theorem pay4_eq (c : Dev nD) (t : Fin cfg0.N) (l : Fin 128) (ch : Fin 1536) :
    (k0_pay4 (F := Ideal) (iblk m c 1 t) (ix2 l ch) : EReal) = iblk m c 1 t (ix2 l ch) := by
  pointwise [k0_pay4]

/-- What is carried over is what was loaded. -/
theorem pay6_eq (w : Vec Ideal S8x1536 .f32) (i : Fin 8) (ch : Fin 1536) : (k0_pay6 (F := Ideal) w (ix2 i ch) : EReal) = w (ix2 i ch) := by
  pointwise [k0_pay6]

/-- What is put into the scratch's first eight rows at the end of a point: the last eight rows of its block. -/
theorem scr_keep (c : Dev nD) (t : Fin cfg0.N) (i : Fin 8) (ch : Fin 1536) : ∀ L : List (View.Piece (Elt Ideal) S136x1536 .f32), (k0_pay6 (F := Ideal) ((View.whole cc0_scratch0).readCov
      ((⟨Rect.unit ![8, 0] ![128, 1536] inb_S136x1536_S128x1536_8_0, k0_pay4 (F := Ideal) (iblk m c 1 t)⟩ : View.Piece (Elt Ideal) S136x1536 .f32) :: L)
      (Rect.unit (s := S136x1536) ![128, 0] ![8, 1536] inb_S136x1536_S8x1536_128_0).toLoadRect) (ix2 i ch) : EReal) = iblk m c 1 t (ix2 (⟨120 + i.val, by omega⟩ : Fin 128) ch) := fun L => by
    refine (pay6_eq _ i ch).trans ?_
    refine (readCov_rows _ 128 8 _ _ i ch (by omega)).trans ?_
    refine (canon_rows 8 128 _ _ _ _ _).trans ((dif_pos (by show 8 ≤ 128 + i.val ∧ 128 + i.val < 8 + 128; omega)).trans ?_)
    rw [pay4_eq]
    exact congrArg (fun j : Fin 128 => (iblk m c 1 t (ix2 j ch) : EReal)) (Fin.ext (by show 128 + i.val - 8 = 120 + i.val; omega))

set_option maxHeartbeats 4000000 in
/-- The scratch's first eight rows after a point are the last eight rows of its block. -/
theorem scr_rows (c : Dev nD) (t : Fin cfg0.N) (i : Fin 8) (ch : Fin 1536) :
    ((outsAt0 m c t.val t.isLt).2.1 (ix2 (⟨i.val, by omega⟩ : Fin 136) ch) : EReal) = iblk m c 1 t (ix2 (⟨120 + i.val, by omega⟩ : Fin 128) ch) := by
  by_cases hc : t.val % 128 = 0
  · rw [outsAt0_A m c t hc]; frame_out
    generalize hz : k0_pay6 (F := Ideal) _ = z
    refine (canon_rows 0 8 _ _ _ _ _).trans ((dif_pos (by show 0 ≤ i.val ∧ i.val < 0 + 8; omega)).trans ?_)
    rw [← hz]
    exact scr_keep m c t i ch _
  · rw [outsAt0_B m c t hc]; frame_out
    generalize hz : k0_pay6 (F := Ideal) _ = z
    refine (canon_rows 0 8 _ _ _ _ _).trans ((dif_pos (by show 0 ≤ i.val ∧ i.val < 0 + 8; omega)).trans ?_)
    rw [← hz]
    exact scr_keep m c t i ch _

/-- A load of 128 rows of the scratch at row `r`, after the block was stored at row 8 over what was there. -/
theorem scr_B {sg : RefSig} {κ : Kind} {sp : Space} (v : View sg κ sp S136x1536 .f32) (f : v.ty.Contents (Elt Ideal)) (r : ℕ) (hr8 : r ≤ 8) (h8 : ∀ a, ![8, 0] a + ![128, 1536] a ≤ S136x1536.size a)
    (hr : ∀ a, ![r, 0] a + ![128, 1536] a ≤ S136x1536.size a)
    (w : FVec Ideal S128x1536 .f32) (l : Fin 128) (ch : Fin 1536) :
    (View.ld (v.read (Elt Ideal) (v.writes (Elt Ideal) f [(⟨Rect.unit ![8, 0] ![128, 1536] h8, w⟩ : View.Piece (Elt Ideal) S136x1536 .f32)]))
      (Rect.unit (s := S136x1536) ![r, 0] ![128, 1536] hr) (ix2 l ch) : EReal)
    = if h : 8 ≤ r + l.val then w (ix2 (⟨r + l.val - 8, by omega⟩ : Fin 128) ch) else v.read (Elt Ideal) f (ix2 (⟨r + l.val, by omega⟩ : Fin 136) ch) := by
  have e : (View.ld (v.read (Elt Ideal) (v.writes (Elt Ideal) f [(⟨Rect.unit ![8, 0] ![128, 1536] h8, w⟩ : View.Piece (Elt Ideal) S136x1536 .f32)]))
      (Rect.unit (s := S136x1536) ![r, 0] ![128, 1536] hr) (ix2 l ch) : EReal) = v.read (Elt Ideal) (v.writes (Elt Ideal) f [(⟨Rect.unit ![8, 0] ![128, 1536] h8, w⟩ : View.Piece (Elt Ideal) S136x1536 .f32)]) (ix2 (⟨r + l.val, by omega⟩ : Fin 136) ch) := by
    refine congrArg (v.read (Elt Ideal) _) (funext fun a => Fin.ext ?_)
    fin_cases a
    · show r + 1 * l.val = r + l.val; omega
    · show 0 + 1 * ch.val = ch.val; omega
  rw [e]
  split
  · next h =>
    refine View.read_writes_cons_unit_of_mem v f h8 w [] _ _ rfl fun a => ?_
    fin_cases a
    · show r + l.val = 8 + (r + l.val - 8); omega
    · show ch.val = 0 + ch.val; omega
  · next h =>
    refine (View.read_writes_cons_unit_of_not_mem v f h8 w [] _ rfl 0 (Or.inl ?_))
    show r + l.val < 8; omega

/-- One tap's weights. -/
theorem wrow (c : Dev nD) (t : Fin cfg0.N) (i : Fin 4) (hi : ∀ a, ![i.val, 0] a + ![1, 1536] a ≤ S4x1536.size a) (ch : Fin 1536) :
    (View.ld (iblk m c 3 t) (Rect.unit (s := S4x1536) ![i.val, 0] ![1, 1536] hi) (ix2 (0 : Fin 1) ch) : EReal) = (XK m c).cw i ch := by
  rw [← blk3 m c t i ch]
  refine congrArg (iblk m c 3 t) (funext fun a => Fin.ext ?_)
  fin_cases a
  · show i.val + 1 * 0 = i.val; omega
  · show 0 + 1 * ch.val = ch.val; omega

/-- The taps that lie in the block. -/
theorem tap_of (c : Dev nD) (t : Fin cfg0.N) (l : Fin 128) (k : ℕ) (ch : Fin 1536) (h : k ≤ l.val) :
    tap (XK m c) (ct t) l k ch = iblk m c 1 t (ix2 (⟨l.val - k, by omega⟩ : Fin 128) ch) := by
  rw [blk1]
  unfold tap
  refine (if_pos (by omega)).trans ?_
  exact congrArg (fun r : Fin 32768 => (XK m c).h r ⟨1536 + ch.val, by omega⟩) (Fin.ext (by show 128 * (ct t).val + l.val - k = 128 * (ct t).val + (l.val - k); omega))

/-- The taps that lie in the block before. -/
theorem tap_before (c : Dev nD) (t t' : Fin cfg0.N) (ht : t.val = t'.val + 1) (hc : t.val % 128 ≠ 0) (l : Fin 128) (k : ℕ) (ch : Fin 1536) (h : l.val < k) (hk : k ≤ 8) :
    tap (XK m c) (ct t) l k ch = iblk m c 1 t' (ix2 (⟨128 + l.val - k, by omega⟩ : Fin 128) ch) := by
  rw [blk1]
  unfold tap
  have e : (ct t).val = t.val := rfl
  have e' : (ct t').val = t'.val := rfl
  refine (if_pos (by omega)).trans ?_
  exact congrArg (fun r : Fin 32768 => (XK m c).h r ⟨1536 + ch.val, by omega⟩) (Fin.ext (by show 128 * (ct t).val + l.val - k = 128 * (ct t').val + (128 + l.val - k); omega))

/-- At a sequence's first chunk the earlier taps are zero. -/
theorem tap_start (c : Dev nD) (t : Fin cfg0.N) (hc : t.val % 128 = 0) (l : Fin 128) (k : ℕ) (ch : Fin 1536) (h : l.val < k) :
    tap (XK m c) (ct t) l k ch = 0 := by
  have e : (ct t).val = t.val := rfl
  exact if_neg (by omega)

/-- The load at row 8 is the row itself. -/
theorem tap_here (c : Dev nD) (t : Fin cfg0.N) {sg : RefSig} {κ : Kind} {sp : Space} (v : View sg κ sp S136x1536 .f32)
    (h8 : ∀ a, ![8, 0] a + ![128, 1536] a ≤ S136x1536.size a) (L : List (View.Piece (Elt Ideal) S136x1536 .f32)) (l : Fin 128) (ch : Fin 1536) :
    (v.readCov ((⟨Rect.unit ![8, 0] ![128, 1536] h8, k0_pay4 (F := Ideal) (iblk m c 1 t)⟩ : View.Piece (Elt Ideal) S136x1536 .f32) :: L)
      (Rect.unit (s := S136x1536) ![8, 0] ![128, 1536] h8).toLoadRect (ix2 l ch) : EReal) = tap (XK m c) (ct t) l 0 ch := by
  refine (readCov_rows v 8 128 h8 _ l ch (by omega)).trans ?_
  refine (canon_rows 8 128 h8 _ L _ ch).trans ((dif_pos (by show 8 ≤ 8 + l.val ∧ 8 + l.val < 8 + 128; omega)).trans ?_)
  rw [pay4_eq, tap_of m c t l 0 ch (Nat.zero_le _)]
  exact congrArg (fun j : Fin 128 => (iblk m c 1 t (ix2 j ch) : EReal)) (Fin.ext (by show 8 + l.val - 8 = l.val - 0; omega))

/-- At a sequence's first chunk the load at row `8 - k` is the tap `k` rows before. -/
theorem tap_A (c : Dev nD) (t : Fin cfg0.N) (hc : t.val % 128 = 0) {sg : RefSig} {κ : Kind} {sp : Space} (v : View sg κ sp S136x1536 .f32)
    (h8 : ∀ a, ![8, 0] a + ![128, 1536] a ≤ S136x1536.size a) (h0 : ∀ a, ![0, 0] a + ![8, 1536] a ≤ S136x1536.size a)
    (r k : ℕ) (hrk : r + k = 8) (hr : ∀ a, ![r, 0] a + ![128, 1536] a ≤ S136x1536.size a) (l : Fin 128) (ch : Fin 1536) :
    (v.readCov [(⟨Rect.unit ![8, 0] ![128, 1536] h8, k0_pay4 (F := Ideal) (iblk m c 1 t)⟩ : View.Piece (Elt Ideal) S136x1536 .f32),
        ⟨Rect.unit ![0, 0] ![8, 1536] h0, k0_pay2 (F := Ideal)⟩]
      (Rect.unit (s := S136x1536) ![r, 0] ![128, 1536] hr).toLoadRect (ix2 l ch) : EReal) = tap (XK m c) (ct t) l k ch := by
  refine (readCov_rows v r 128 hr _ l ch (by omega)).trans ((canon_rows 8 128 h8 _ _ _ ch).trans ?_)
  by_cases h : k ≤ l.val
  · refine (dif_pos (by show 8 ≤ r + l.val ∧ r + l.val < 8 + 128; omega)).trans ?_
    rw [pay4_eq, tap_of m c t l k ch h]
    exact congrArg (fun j : Fin 128 => (iblk m c 1 t (ix2 j ch) : EReal)) (Fin.ext (by show r + l.val - 8 = l.val - k; omega))
  · refine (dif_neg (by show ¬(8 ≤ r + l.val ∧ r + l.val < 8 + 128); omega)).trans ?_
    refine (canon_rows 0 8 h0 _ [] _ ch).trans ((dif_pos (by show 0 ≤ r + l.val ∧ r + l.val < 0 + 8; omega)).trans ?_)
    rw [tap_start m c t hc l k ch (by omega)]
    generalize (⟨r + l.val - 0, _⟩ : Fin 8) = j
    pointwise [k0_pay2]

/-- At a later chunk likewise, the first rows being those that the point before carried over. -/
theorem tap_B (c : Dev nD) (t t' : Fin cfg0.N) (ht : t.val = t'.val + 1) (hc : t.val % 128 ≠ 0) {sg : RefSig} {κ : Kind} {sp : Space}
    (v : View sg κ sp S136x1536 .f32) (f : v.ty.Contents (Elt Ideal)) (hf : v.read (Elt Ideal) f = (outsAt0 m c t'.val t'.isLt).2.1)
    (h8 : ∀ a, ![8, 0] a + ![128, 1536] a ≤ S136x1536.size a)
    (r k : ℕ) (hrk : r + k = 8) (hr : ∀ a, ![r, 0] a + ![128, 1536] a ≤ S136x1536.size a) (l : Fin 128) (ch : Fin 1536) :
    (View.ld (v.read (Elt Ideal) (v.writes (Elt Ideal) f [(⟨Rect.unit ![8, 0] ![128, 1536] h8, k0_pay4 (F := Ideal) (iblk m c 1 t)⟩ : View.Piece (Elt Ideal) S136x1536 .f32)]))
      (Rect.unit (s := S136x1536) ![r, 0] ![128, 1536] hr) (ix2 l ch) : EReal) = tap (XK m c) (ct t) l k ch := by
  refine (scr_B v f r (by omega) h8 hr _ l ch).trans ?_
  by_cases h : k ≤ l.val
  · refine (dif_pos (by omega)).trans ?_
    rw [pay4_eq, tap_of m c t l k ch h]
    exact congrArg (fun j : Fin 128 => (iblk m c 1 t (ix2 j ch) : EReal)) (Fin.ext (by show r + l.val - 8 = l.val - k; omega))
  · refine (dif_neg (by omega)).trans ?_
    rw [hf, tap_before m c t t' ht hc l k ch (by omega) (by omega)]
    refine (scr_rows m c t' ⟨r + l.val, by omega⟩ ch).trans ?_
    exact congrArg (fun j : Fin 128 => (iblk m c 1 t' (ix2 j ch) : EReal)) (Fin.ext (by show 120 + (r + l.val) = 128 + l.val - k; omega))

end Cert.Ssd.Ker

end
-- ==== Proof.KerHeads.lean ====
/-
  What the kernel computes for one head of one chunk, as a formula over the arrays that the body keeps, and that formula
  in terms of the recurrence; the normalisation of the finished rows.
-/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ssd.Ker

open Cert.KernelIdeal Cert.KernelIdeal.Gen Idealize.ShloMosaic Idealize.ShloMosaic.TcCoe Idealize.SL.Sem

/-- A head's state after the chunk, from the activations, the step sizes, the decays and the states before it. -/
def sNew (A : FVec Ideal S128x1536 .f32) (DT : FVec Ideal S128x128 .f32) (EL : FVec Ideal S1x128 .f32) (DE : FVec Ideal S128x128 .f32)
    (P : FVec Ideal S16x128x64 .f32) (d : Fin 16) (n : Fin 128) (p : Fin 64) : EReal :=
  P (ix3 d n p) * EL (ix2 (0 : Fin 1) (⟨d.val, by omega⟩ : Fin 128))
    + ∑ x : Fin 128, A (ix2 x (⟨1024 + 128 * (d.val / 8) + n.val, by omega⟩ : Fin 1536))
      * (A (ix2 x (⟨64 * d.val + p.val, by omega⟩ : Fin 1536)) * DT (ix2 x (⟨d.val, by omega⟩ : Fin 128))
        * Ideal.exp (DE (ix2 x (⟨d.val, by omega⟩ : Fin 128))))

/-- A head's output at one row, from the same arrays and the skip weights. -/
def yNew (A : FVec Ideal S128x1536 .f32) (DT AC ACT EAC : FVec Ideal S128x128 .f32) (D : FVec Ideal S1x1024 .f32)
    (P : FVec Ideal S16x128x64 .f32) (l : Fin 128) (d : Fin 16) (p : Fin 64) : EReal :=
  ∑ x : Fin 128, (∑ n : Fin 128, A (ix2 l (⟨1280 + 128 * (d.val / 8) + n.val, by omega⟩ : Fin 1536))
        * A (ix2 x (⟨1024 + 128 * (d.val / 8) + n.val, by omega⟩ : Fin 1536)))
      * Ideal.exp (Scalar.select (IntOp.cmpi .sle (BitVec.ofNat 32 x.val) (BitVec.ofNat 32 l.val))
          (AC (ix2 l (⟨d.val, by omega⟩ : Fin 128)) - ACT (ix2 (⟨d.val, by omega⟩ : Fin 128) x)) (Ideal.ofBits .f32 4286578688#32))
      * (A (ix2 x (⟨64 * d.val + p.val, by omega⟩ : Fin 1536)) * DT (ix2 x (⟨d.val, by omega⟩ : Fin 128)))
    + (∑ n : Fin 128, A (ix2 l (⟨1280 + 128 * (d.val / 8) + n.val, by omega⟩ : Fin 1536)) * P (ix3 d n p))
      * EAC (ix2 l (⟨d.val, by omega⟩ : Fin 128))
    + A (ix2 l (⟨64 * d.val + p.val, by omega⟩ : Fin 1536)) * D (ix2 (0 : Fin 1) (⟨64 * d.val + p.val, by omega⟩ : Fin 1024))

/-- Over the chunk's activations, step sizes and decays, `sNew` is the recurrence's next state. -/
theorem sNew_eq (X : Inp) (t : Fin 256) (A : FVec Ideal S128x1536 .f32) (DT : FVec Ideal S128x128 .f32) (EL : FVec Ideal S1x128 .f32)
    (DE : FVec Ideal S128x128 .f32) (P : FVec Ideal S16x128x64 .f32)
    (hA : ∀ l ch, (A (ix2 l ch) : EReal) = act X t l ch)
    (hDT : ∀ l (d : Fin 16), (DT (ix2 l (⟨d.val, by omega⟩ : Fin 128)) : EReal) = dt X t l d)
    (hEL : ∀ d : Fin 16, (EL (ix2 (0 : Fin 1) (⟨d.val, by omega⟩ : Fin 128)) : EReal) = Ideal.exp (acs X t 127 d))
    (hDE : ∀ l (d : Fin 16), (DE (ix2 l (⟨d.val, by omega⟩ : Fin 128)) : EReal) = acs X t 127 d - acs X t l d)
    (d : Fin 16) (n : Fin 128) (p : Fin 64) :
    sNew A DT EL DE P d n p = stNext X t (fun d n p => P (ix3 d n p)) d n p := by
  unfold sNew stNext dState bm xh
  simp only [hA, hDT, hEL, hDE]

/-- Over the chunk's activations, step sizes and decays, `yNew` is the recurrence's output. -/
theorem yNew_eq (X : Inp) (t : Fin 256) (A : FVec Ideal S128x1536 .f32) (DT AC ACT EAC : FVec Ideal S128x128 .f32) (D : FVec Ideal S1x1024 .f32)
    (P : FVec Ideal S16x128x64 .f32)
    (hA : ∀ l ch, (A (ix2 l ch) : EReal) = act X t l ch)
    (hDT : ∀ l (d : Fin 16), (DT (ix2 l (⟨d.val, by omega⟩ : Fin 128)) : EReal) = dt X t l d)
    (hAC : ∀ l (d : Fin 16), (AC (ix2 l (⟨d.val, by omega⟩ : Fin 128)) : EReal) = acs X t l d)
    (hACT : ∀ l (d : Fin 16), (ACT (ix2 (⟨d.val, by omega⟩ : Fin 128) l) : EReal) = acs X t l d)
    (hEAC : ∀ l (d : Fin 16), (EAC (ix2 l (⟨d.val, by omega⟩ : Fin 128)) : EReal) = Ideal.exp (acs X t l d))
    (hD : ∀ (d : Fin 16) (p : Fin 64), (D (ix2 (0 : Fin 1) (⟨64 * d.val + p.val, by omega⟩ : Fin 1024)) : EReal) = X.ds d)
    (l : Fin 128) (d : Fin 16) (p : Fin 64) :
    yNew A DT AC ACT EAC D P l d p = yOf X t (fun d n p => P (ix3 d n p)) l d p := by
  unfold yNew yOf yDiag bm cm xh
  simp only [hA, hDT, hAC, hACT, hEAC, hD, select_sle, ofBits_neg_inf]

/-- `0 - x` is `-x`. -/
theorem zero_sub' (x : EReal) : 0 - x = -x := by rw [sub_eq_add_neg, zero_add]

/-- The convolution and its `silu`, where the nine operands read the bias, the taps' weights and the taps. -/
theorem act_eval (X : Inp) (t : Fin 256) (b w3 : Vec Ideal S1x1536 .f32) (x0 : Vec Ideal S128x1536 .f32) (w2 : Vec Ideal S1x1536 .f32)
    (x1 : Vec Ideal S128x1536 .f32) (w1 : Vec Ideal S1x1536 .f32) (x2 : Vec Ideal S128x1536 .f32) (w0 : Vec Ideal S1x1536 .f32)
    (x3 : Vec Ideal S128x1536 .f32)
    (hb : ∀ ch, (b (ix2 (0 : Fin 1) ch) : EReal) = X.cb ch) (h3 : ∀ ch, (w3 (ix2 (0 : Fin 1) ch) : EReal) = X.cw 3 ch)
    (h2 : ∀ ch, (w2 (ix2 (0 : Fin 1) ch) : EReal) = X.cw 2 ch) (h1 : ∀ ch, (w1 (ix2 (0 : Fin 1) ch) : EReal) = X.cw 1 ch)
    (h0 : ∀ ch, (w0 (ix2 (0 : Fin 1) ch) : EReal) = X.cw 0 ch)
    (t0 : ∀ l ch, (x0 (ix2 l ch) : EReal) = tap X t l 0 ch) (t1 : ∀ l ch, (x1 (ix2 l ch) : EReal) = tap X t l 1 ch)
    (t2 : ∀ l ch, (x2 (ix2 l ch) : EReal) = tap X t l 2 ch) (t3 : ∀ l ch, (x3 (ix2 l ch) : EReal) = tap X t l 3 ch)
    (l : Fin 128) (ch : Fin 1536) :
    (k0_pay7 (F := Ideal) (k0_pay5 b w3 x0 w2 x1 w1 x2 w0 x3) (ix2 l ch) : EReal) = act X t l ch := by
  unfold act silu
  rw [← hb, ← h3, ← h2, ← h1, ← h0, ← t0, ← t1, ← t2, ← t3, ← zero_sub']
  pointwise [k0_pay7, k0_pay5]

/-- The step sizes, where the operands read the projection and the bias. -/
theorem dt_eval (X : Inp) (t : Fin 256) (v : Vec Ideal S128x128 .f32) (w : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d) (l : Fin 128) (d : Fin 16) :
    (k0_pay8 (F := Ideal) v w (ix2 l (⟨d.val, by omega⟩ : Fin 128)) : EReal) = dt X t l d := by
  unfold dt softplus
  rw [← hv, ← hw, ← zero_sub']
  generalize (⟨d.val, by omega⟩ : Fin 128) = e
  pointwise [k0_pay8]
  rfl

/-- The decays' sums, where the operands read the step sizes and the rates. -/
theorem acs_eval (X : Inp) (t : Fin 256) (v : Vec Ideal S128x128 .f32) (w x : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d)
    (hx : ∀ d : Fin 16, (x (ix2 (0 : Fin 1) (⟨d.val, by omega⟩ : Fin 128)) : EReal) = -Ideal.exp (X.al d)) (l : Fin 128) (d : Fin 16) :
    (k0_pay10 (F := Ideal) v w x (ix2 l (⟨d.val, by omega⟩ : Fin 128)) : EReal) = acs X t l d := by
  unfold acs
  simp only [← select_sle, ← dt_eval X t v w hv hw, ← hx]
  generalize (⟨d.val, by omega⟩ : Fin 128) = e
  pointwise [k0_pay10, k0_pay9]

/-- The finished rows, gated and normalised, where the operands read the heads' outputs, the projection and the gains. -/
theorem norm_eval (X : Inp) (t : Fin 256) (S : Fin 16 → Fin 128 → Fin 64 → EReal) (Y Z : Vec Ideal S128x1024 .f32) (G : Vec Ideal S1x1024 .f32)
    (hY : ∀ l q, (Y (ix2 l q) : EReal) = yOf X t S l ⟨q.val / 64, by omega⟩ ⟨q.val % 64, by omega⟩)
    (hZ : ∀ l (q : Fin 1024), (Z (ix2 l q) : EReal) = X.h ⟨128 * t.val + l.val, by omega⟩ ⟨q.val, by omega⟩)
    (hG : ∀ q, (G (ix2 (0 : Fin 1) q) : EReal) = X.ng q) (l : Fin 128) (q : Fin 1024) :
    (k0_pay1 (F := Ideal) (k0_pay137 Y Z) (k0_pay138 Y Z) (k0_pay139 Y Z) G (ix2 l q) : EReal) = normed X t S l q := by
  have hg : ∀ l q, gated X t S l q = Y (ix2 l q) * (Z (ix2 l q) * Ideal.div 1 (1 + Ideal.exp (0 - Z (ix2 l q)))) := fun l q => by
    unfold gated silu
    rw [hY, hZ, zero_sub']
  unfold normed
  rw [← hG]
  simp only [hg]
  clear hg hG hY hZ
  by_cases hq : q.val < 512
  · obtain ⟨e, he⟩ : ∃ e : Fin 512 → Fin 1024, e = fun j => ⟨512 * (q.val / 512) + j.val, by omega⟩ := ⟨_, rfl⟩
    have he' : ∀ j : Fin 512, (⟨j.val, by omega⟩ : Fin 1024) = e j := fun j => by rw [he]; apply Fin.ext; show j.val = 512 * (q.val / 512) + j.val; omega
    refine Eq.trans ?_ (congrArg (fun e : Fin 512 → Fin 1024 => Y (ix2 l q) * (Z (ix2 l q) * Ideal.div 1 (1 + Ideal.exp (0 - Z (ix2 l q))))
      * Ideal.rsqrt (Ideal.div (∑ j : Fin 512, Y (ix2 l (e j)) * (Z (ix2 l (e j)) * Ideal.div 1 (1 + Ideal.exp (0 - Z (ix2 l (e j)))))
        * (Y (ix2 l (e j)) * (Z (ix2 l (e j)) * Ideal.div 1 (1 + Ideal.exp (0 - Z (ix2 l (e j))))))) (Ideal.ofBits FTy.f32 0x44000000#32)
        + Ideal.ofBits FTy.f32 0x3727C5AC#32) * G (ix2 (0 : Fin 1) q)) he)
    rw [← funext he']
    pointwise [k0_pay1, k0_pay137, k0_pay138, k0_pay139, k0_pay136]
    exact congrArg (fun x : EReal => x * G (ix2 (0 : Fin 1) q)) (dif_pos hq)
  · obtain ⟨e, he⟩ : ∃ e : Fin 512 → Fin 1024, e = fun j => ⟨512 * (q.val / 512) + j.val, by omega⟩ := ⟨_, rfl⟩
    have he' : ∀ j : Fin 512, (⟨512 + j.val, by omega⟩ : Fin 1024) = e j := fun j => by rw [he]; apply Fin.ext; show 512 + j.val = 512 * (q.val / 512) + j.val; omega
    have hq' : (⟨512 + (q.val - 512), by omega⟩ : Fin 1024) = q := Fin.ext (by show 512 + (q.val - 512) = q.val; omega)
    refine Eq.trans ?_ (congrArg (fun e : Fin 512 → Fin 1024 => Y (ix2 l q) * (Z (ix2 l q) * Ideal.div 1 (1 + Ideal.exp (0 - Z (ix2 l q))))
      * Ideal.rsqrt (Ideal.div (∑ j : Fin 512, Y (ix2 l (e j)) * (Z (ix2 l (e j)) * Ideal.div 1 (1 + Ideal.exp (0 - Z (ix2 l (e j)))))
        * (Y (ix2 l (e j)) * (Z (ix2 l (e j)) * Ideal.div 1 (1 + Ideal.exp (0 - Z (ix2 l (e j))))))) (Ideal.ofBits FTy.f32 0x44000000#32)
        + Ideal.ofBits FTy.f32 0x3727C5AC#32) * G (ix2 (0 : Fin 1) q)) he)
    rw [← funext he']
    pointwise [k0_pay1, k0_pay137, k0_pay138, k0_pay139, k0_pay136]
    refine congrArg (fun x : EReal => x * G (ix2 (0 : Fin 1) q)) ((dif_neg hq).trans ?_)
    exact congrArg (fun r : Fin 1024 => Y (ix2 l r) * (Z (ix2 l r) * Ideal.div 1 (1 + Ideal.exp (0 - Z (ix2 l r))))
      * Ideal.rsqrt (Ideal.div (∑ j : Fin 512, Y (ix2 l ⟨512 + j.val, by omega⟩) * (Z (ix2 l ⟨512 + j.val, by omega⟩) * Ideal.div 1 (1 + Ideal.exp (0 - Z (ix2 l ⟨512 + j.val, by omega⟩))))
        * (Y (ix2 l ⟨512 + j.val, by omega⟩) * (Z (ix2 l ⟨512 + j.val, by omega⟩) * Ideal.div 1 (1 + Ideal.exp (0 - Z (ix2 l ⟨512 + j.val, by omega⟩)))))) (Ideal.ofBits FTy.f32 0x44000000#32)
        + Ideal.ofBits FTy.f32 0x3727C5AC#32)) hq'

/-- The same sums, transposed. -/
theorem acst_eval (X : Inp) (t : Fin 256) (v : Vec Ideal S128x128 .f32) (w x : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d)
    (hx : ∀ d : Fin 16, (x (ix2 (0 : Fin 1) (⟨d.val, by omega⟩ : Fin 128)) : EReal) = -Ideal.exp (X.al d)) (l : Fin 128) (d : Fin 16) :
    (k0_pay11 (F := Ideal) v w x (ix2 (⟨d.val, by omega⟩ : Fin 128) l) : EReal) = acs X t l d := by
  rw [← acs_eval X t v w x hv hw hx]
  generalize (⟨d.val, by omega⟩ : Fin 128) = e
  unfold k0_pay11
  generalize k0_pay10 (F := Ideal) v w x = y
  pointwise

/-- Their exponentials. -/
theorem eac_eval (X : Inp) (t : Fin 256) (v : Vec Ideal S128x128 .f32) (w x : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d)
    (hx : ∀ d : Fin 16, (x (ix2 (0 : Fin 1) (⟨d.val, by omega⟩ : Fin 128)) : EReal) = -Ideal.exp (X.al d)) (l : Fin 128) (d : Fin 16) :
    (k0_pay12 (F := Ideal) v w x (ix2 l (⟨d.val, by omega⟩ : Fin 128)) : EReal) = Ideal.exp (acs X t l d) := by
  rw [← acs_eval X t v w x hv hw hx]
  generalize (⟨d.val, by omega⟩ : Fin 128) = e
  pointwise [k0_pay12]

/-- The whole chunk's decay. -/
theorem el_eval (X : Inp) (t : Fin 256) (v : Vec Ideal S128x128 .f32) (w x : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d)
    (hx : ∀ d : Fin 16, (x (ix2 (0 : Fin 1) (⟨d.val, by omega⟩ : Fin 128)) : EReal) = -Ideal.exp (X.al d)) (d : Fin 16) :
    (k0_pay13 (F := Ideal) v w x (ix2 (0 : Fin 1) (⟨d.val, by omega⟩ : Fin 128)) : EReal) = Ideal.exp (acs X t 127 d) := by
  rw [← acs_eval X t v w x hv hw hx]
  generalize (⟨d.val, by omega⟩ : Fin 128) = e
  pointwise [k0_pay13]

/-- The logarithm of the decay from a row to the chunk's end. -/
theorem de_eval (X : Inp) (t : Fin 256) (v : Vec Ideal S128x128 .f32) (w x : Vec Ideal S1x128 .f32)
    (hv : ∀ l (d : Fin 16), (v (ix2 l (⟨d.val, by omega⟩ : Fin 128)) : EReal) = X.h ⟨128 * t.val + l.val, by omega⟩ ⟨5760 + d.val, by omega⟩)
    (hw : ∀ d : Fin 16, (w (ix2 (0 : Fin 1) (⟨d.val, by omega⟩ : Fin 128)) : EReal) = X.dtb d)
    (hx : ∀ d : Fin 16, (x (ix2 (0 : Fin 1) (⟨d.val, by omega⟩ : Fin 128)) : EReal) = -Ideal.exp (X.al d)) (l : Fin 128) (d : Fin 16) :
    (k0_pay14 (F := Ideal) v w x (ix2 l (⟨d.val, by omega⟩ : Fin 128)) : EReal) = acs X t 127 d - acs X t l d := by
  rw [← acs_eval X t v w x hv hw hx, ← acs_eval X t v w x hv hw hx]
  generalize (⟨d.val, by omega⟩ : Fin 128) = e
  pointwise [k0_pay14]

/-- An array whose columns are the heads' outputs, read at a column. -/
theorem heads_all (X : Inp) (t : Fin 256) (S : Fin 16 → Fin 128 → Fin 64 → EReal) (Y : Vec Ideal S128x1024 .f32)
    (h : ∀ (l : Fin 128) (d : Fin 16) (p : Fin 64), (Y (ix2 l (⟨64 * d.val + p.val, by omega⟩ : Fin 1024)) : EReal) = yOf X t S l d p) (l : Fin 128) (q : Fin 1024) :
    (Y (ix2 l q) : EReal) = yOf X t S l ⟨q.val / 64, by omega⟩ ⟨q.val % 64, by omega⟩ := by
  rw [← h]
  exact congrArg (fun q : Fin 1024 => (Y (ix2 l q) : EReal)) (Fin.ext (by show q.val = 64 * (q.val / 64) + q.val % 64; omega))

end Cert.Ssd.Ker

end
-- ==== Proof.KerPoint.lean ====
/-
  What one grid point leaves: the next state of the recurrence and the chunk's normalised output.
-/
module

public import proofs.«01_k».proof.Proof.KerRows
public import proofs.«01_k».proof.Proof.KerScratch
public import proofs.«01_k».proof.Proof.KerHeads

@[expose] public section

set_option maxRecDepth 16384

noncomputable section

namespace Cert.Ssd.Ker

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
/-- The state after a sequence's first chunk. -/
theorem state_A (c : Dev nD) (t : Fin cfg0.N) (h : t.val % 128 = 0) (d : Fin 16) (n : Fin 128) (p : Fin 64) :
    ((outsAt0 m c t.val t.isLt).2.2 (ix3 d n p) : EReal) = stNext (XK m c) (ct t) (fun _ _ _ => 0) d n p := by
  have hz : (fun d n p => (k0_pay3 (F := Ideal) (ix3 d n p) : EReal)) = fun (_ : Fin 16) (_ : Fin 128) (_ : Fin 64) => (0 : EReal) := by
    funext d n p; pointwise [k0_pay3]
  rw [← hz, outsAt0_A m c t h]; frame_out
  clear hz
  generalize hA : k0_pay7 (F := Ideal) _ = A
  have hact : ∀ l ch, (A (ix2 l ch) : EReal) = act (XK m c) (ct t) l ch := fun l ch => by
    rw [← hA]
    exact act_eval (XK m c) (ct t) _ _ _ _ _ _ _ _ _ (blk4 m c t) (wrow m c t 3 _) (wrow m c t 2 _) (wrow m c t 1 _) (wrow m c t 0 _)
      (tap_here m c t _ _ _) (tap_A m c t h _ _ _ 7 1 rfl _) (tap_A m c t h _ _ _ 6 2 rfl _) (tap_A m c t h _ _ _ 5 3 rfl _) l ch
  clear hA
  have hDT := dt_eval (XK m c) (ct t) _ _ (blk2 m c t) (blk5 m c t)
  have hEL := el_eval (XK m c) (ct t) _ _ _ (blk2 m c t) (blk5 m c t) (blk6 m c t)
  have hDE := de_eval (XK m c) (ct t) _ _ _ (blk2 m c t) (blk5 m c t) (blk6 m c t)
  revert hDT hEL hDE
  generalize k0_pay8 (F := Ideal) _ _ = DT
  generalize k0_pay13 (F := Ideal) _ _ _ = EL
  generalize k0_pay14 (F := Ideal) _ _ _ = DE
  simp (disch := decide) only [row_of_ne]
  generalize k0_pay3 (F := Ideal) = P
  simp only [row_base]
  intro hDT hEL hDE
  rw [← sNew_eq (XK m c) (ct t) A DT EL DE P hact hDT hEL hDE d n p]
  clear hact hDT hEL hDE
  unfold sNew
  rw [canon_row]; simp only [canon_row]
  repeat' refine ite_eq_iff'.2 ⟨fun hd => ?_, fun hd => ?_⟩
  on_goal 17 => exfalso; omega
  all_goals
    obtain ⟨d, hd'⟩ := d
    cases hd
    open_payloads; pointwise

/-- The state after a later chunk, from the state after the chunk before. -/
theorem state_B (c : Dev nD) (t : Fin cfg0.N) (h : t.val % 128 ≠ 0) (d : Fin 16) (n : Fin 128) (p : Fin 64) :
    ((outsAt0 m c t.val t.isLt).2.2 (ix3 d n p) : EReal)
      = stNext (XK m c) (ct t) (fun d n p => (outsAt0 m c (t.val - 1) (by omega)).2.2 (ix3 d n p)) d n p := by
  rw [outsAt0_B m c t h]; frame_out
  generalize hA : k0_pay7 (F := Ideal) _ = A
  have hact : ∀ l ch, (A (ix2 l ch) : EReal) = act (XK m c) (ct t) l ch := fun l ch => by
    rw [← hA]
    exact act_eval (XK m c) (ct t) _ _ _ _ _ _ _ _ _ (blk4 m c t) (wrow m c t 3 _) (wrow m c t 2 _) (wrow m c t 1 _) (wrow m c t 0 _)
      (tap_here m c t _ _ []) (tap_B m c t ⟨t.val - 1, by omega⟩ (by show t.val = t.val - 1 + 1; omega) h _ _ (by simp only [read_unread_whole]) _ 7 1 rfl _)
      (tap_B m c t ⟨t.val - 1, by omega⟩ (by show t.val = t.val - 1 + 1; omega) h _ _ (by simp only [read_unread_whole]) _ 6 2 rfl _)
      (tap_B m c t ⟨t.val - 1, by omega⟩ (by show t.val = t.val - 1 + 1; omega) h _ _ (by simp only [read_unread_whole]) _ 5 3 rfl _) l ch
  clear hA
  have hDT := dt_eval (XK m c) (ct t) _ _ (blk2 m c t) (blk5 m c t)
  have hEL := el_eval (XK m c) (ct t) _ _ _ (blk2 m c t) (blk5 m c t) (blk6 m c t)
  have hDE := de_eval (XK m c) (ct t) _ _ _ (blk2 m c t) (blk5 m c t) (blk6 m c t)
  revert hDT hEL hDE
  generalize k0_pay8 (F := Ideal) _ _ = DT
  generalize k0_pay13 (F := Ideal) _ _ _ = EL
  generalize k0_pay14 (F := Ideal) _ _ _ = DE
  generalize (outsAt0 m c (↑t - 1) _).2.2 = P
  intro hDT hEL hDE
  simp only [read_unread_whole]
  rw [← sNew_eq (XK m c) (ct t) A DT EL DE P hact hDT hEL hDE d n p]
  clear hact hDT hEL hDE
  unfold sNew
  canon_tiles x hx
  all_goals
    obtain rfl : n = x 1 := Fin.ext hx1
    obtain rfl : p = x 2 := Fin.ext hx2
    have h0 : (x 0).val = 0 := by omega
    rw [h0] at hx0
    obtain ⟨d, hd⟩ := d
    cases (hx0 : d = _ + 0)
    open_payloads; pointwise

set_option maxHeartbeats 4000000 in
/-- The output of a sequence's first chunk. -/
theorem out_A (c : Dev nD) (t : Fin cfg0.N) (h : t.val % 128 = 0) (l : Fin 128) (q : Fin 1024) :
    ((outsAt0 m c t.val t.isLt).1 (ix2 l q) : EReal) = normed (XK m c) (ct t) (fun _ _ _ => 0) l q := by
  have hz : (fun d n p => (k0_pay3 (F := Ideal) (ix3 d n p) : EReal)) = fun (_ : Fin 16) (_ : Fin 128) (_ : Fin 64) => (0 : EReal) := by
    funext d n p; pointwise [k0_pay3]
  rw [← hz, outsAt0_A m c t h]; frame_out
  clear hz
  refine norm_eval (XK m c) (ct t) _ _ _ _ (heads_all _ _ _ _ fun l d p => ?_) (blk0 m c t) (blk8 m c t) l q
  refine (readCov_cols _ _ _ l _).trans ?_
  generalize hA : k0_pay7 (F := Ideal) _ = A
  have hact : ∀ l ch, (A (ix2 l ch) : EReal) = act (XK m c) (ct t) l ch := fun l ch => by
    rw [← hA]
    exact act_eval (XK m c) (ct t) _ _ _ _ _ _ _ _ _ (blk4 m c t) (wrow m c t 3 _) (wrow m c t 2 _) (wrow m c t 1 _) (wrow m c t 0 _)
      (tap_here m c t _ _ _) (tap_A m c t h _ _ _ 7 1 rfl _) (tap_A m c t h _ _ _ 6 2 rfl _) (tap_A m c t h _ _ _ 5 3 rfl _) l ch
  clear hA
  have hDT := dt_eval (XK m c) (ct t) _ _ (blk2 m c t) (blk5 m c t)
  have hAC := acs_eval (XK m c) (ct t) _ _ _ (blk2 m c t) (blk5 m c t) (blk6 m c t)
  have hACT := acst_eval (XK m c) (ct t) _ _ _ (blk2 m c t) (blk5 m c t) (blk6 m c t)
  have hEAC := eac_eval (XK m c) (ct t) _ _ _ (blk2 m c t) (blk5 m c t) (blk6 m c t)
  have hD : ∀ (d : Fin 16) (p : Fin 64), (iblk m c 7 t (ix2 (0 : Fin 1) (⟨64 * d.val + p.val, by omega⟩ : Fin 1024)) : EReal) = (XK m c).ds d := fun d p => by
    rw [blk7]
    exact congrArg (XK m c).ds (Fin.ext (by show (64 * d.val + p.val) / 64 = d.val; omega))
  revert hDT hAC hACT hEAC hD
  generalize k0_pay8 (F := Ideal) _ _ = DT
  generalize k0_pay10 (F := Ideal) _ _ _ = AC
  generalize k0_pay11 (F := Ideal) _ _ _ = ACT
  generalize k0_pay12 (F := Ideal) _ _ _ = EAC
  generalize iblk m c 7 t = D
  simp (disch := decide) only [row_of_ne]
  generalize k0_pay3 (F := Ideal) = P
  simp only [row_base]
  intro hDT hAC hACT hEAC hD
  rw [← yNew_eq (XK m c) (ct t) A DT AC ACT EAC D P hact hDT hAC hACT hEAC hD l d p]
  clear hact hDT hAC hACT hEAC hD
  unfold yNew
  iterate 16 refine canon_col_step _ (by decide) _ _ _ l d p _ (fun hd => ?_) (fun hd => ?_)
  · exfalso; omega
  all_goals
    simp only [Nat.reduceDiv] at hd
    obtain ⟨d, hd'⟩ := d
    cases hd
    open_payloads; pointwise

set_option maxHeartbeats 4000000 in
/-- The output of a later chunk, from the state after the chunk before. -/
theorem out_B (c : Dev nD) (t : Fin cfg0.N) (h : t.val % 128 ≠ 0) (l : Fin 128) (q : Fin 1024) :
    ((outsAt0 m c t.val t.isLt).1 (ix2 l q) : EReal)
      = normed (XK m c) (ct t) (fun d n p => (outsAt0 m c (t.val - 1) (by omega)).2.2 (ix3 d n p)) l q := by
  rw [outsAt0_B m c t h]; frame_out
  refine norm_eval (XK m c) (ct t) _ _ _ _ (heads_all _ _ _ _ fun l d p => ?_) (blk0 m c t) (blk8 m c t) l q
  refine (readCov_cols _ _ _ l _).trans ?_
  generalize hA : k0_pay7 (F := Ideal) _ = A
  have hact : ∀ l ch, (A (ix2 l ch) : EReal) = act (XK m c) (ct t) l ch := fun l ch => by
    rw [← hA]
    exact act_eval (XK m c) (ct t) _ _ _ _ _ _ _ _ _ (blk4 m c t) (wrow m c t 3 _) (wrow m c t 2 _) (wrow m c t 1 _) (wrow m c t 0 _)
      (tap_here m c t _ _ []) (tap_B m c t ⟨t.val - 1, by omega⟩ (by show t.val = t.val - 1 + 1; omega) h _ _ (by simp only [read_unread_whole]) _ 7 1 rfl _)
      (tap_B m c t ⟨t.val - 1, by omega⟩ (by show t.val = t.val - 1 + 1; omega) h _ _ (by simp only [read_unread_whole]) _ 6 2 rfl _)
      (tap_B m c t ⟨t.val - 1, by omega⟩ (by show t.val = t.val - 1 + 1; omega) h _ _ (by simp only [read_unread_whole]) _ 5 3 rfl _) l ch
  clear hA
  have hDT := dt_eval (XK m c) (ct t) _ _ (blk2 m c t) (blk5 m c t)
  have hAC := acs_eval (XK m c) (ct t) _ _ _ (blk2 m c t) (blk5 m c t) (blk6 m c t)
  have hACT := acst_eval (XK m c) (ct t) _ _ _ (blk2 m c t) (blk5 m c t) (blk6 m c t)
  have hEAC := eac_eval (XK m c) (ct t) _ _ _ (blk2 m c t) (blk5 m c t) (blk6 m c t)
  have hD : ∀ (d : Fin 16) (p : Fin 64), (iblk m c 7 t (ix2 (0 : Fin 1) (⟨64 * d.val + p.val, by omega⟩ : Fin 1024)) : EReal) = (XK m c).ds d := fun d p => by
    rw [blk7]
    exact congrArg (XK m c).ds (Fin.ext (by show (64 * d.val + p.val) / 64 = d.val; omega))
  revert hDT hAC hACT hEAC hD
  generalize k0_pay8 (F := Ideal) _ _ = DT
  generalize k0_pay10 (F := Ideal) _ _ _ = AC
  generalize k0_pay11 (F := Ideal) _ _ _ = ACT
  generalize k0_pay12 (F := Ideal) _ _ _ = EAC
  generalize iblk m c 7 t = D
  generalize (outsAt0 m c (↑t - 1) _).2.2 = P
  simp only [read_unread_whole]
  intro hDT hAC hACT hEAC hD
  rw [← yNew_eq (XK m c) (ct t) A DT AC ACT EAC D P hact hDT hAC hACT hEAC hD l d p]
  clear hact hDT hAC hACT hEAC hD
  unfold yNew
  iterate 16 refine canon_col_step _ (by decide) _ _ _ l d p _ (fun hd => ?_) (fun hd => ?_)
  · exfalso; omega
  all_goals
    simp only [Nat.reduceDiv] at hd
    obtain ⟨d, hd'⟩ := d
    cases hd
    open_payloads; pointwise

end Cert.Ssd.Ker

end
-- ==== Proof.KerState.lean ====
/-
  The kept state over the grid by induction, and the kernel's result.
-/
module

public import proofs.«01_k».proof.Proof.KerPoint

@[expose] public section

set_option maxRecDepth 16384

noncomputable section

namespace Cert.Ssd.Ker

open Cert.KernelIdeal Cert.KernelIdeal.Gen Idealize.ShloMosaic Idealize.ShloMosaic.TcCoe Idealize.SL.Sem

variable (m : (ℓ : Loc nD τ sig) → Buf (Elt Ideal) ℓ)

/-- After point `n` the kept state is the recurrence's state after chunk `n`. -/
theorem state_all (c : Dev nD) : ∀ (n : ℕ) (hn : n < cfg0.N) (d : Fin 16) (j : Fin 128) (p : Fin 64),
    ((outsAt0 m c n hn).2.2 (ix3 d j p) : EReal) = stNext (XK m c) (ct ⟨n, hn⟩) (st (XK m c) n) d j p := by
  intro n
  induction n with
  | zero => exact fun hn d j p => state_A m c ⟨0, hn⟩ rfl d j p
  | succ k ih =>
    intro hn d j p
    by_cases h : (k + 1) % 128 = 0
    · refine (state_A m c ⟨k + 1, hn⟩ h d j p).trans ?_
      rw [st, if_pos h]
    · refine (state_B m c ⟨k + 1, hn⟩ h d j p).trans ?_
      rw [st, if_neg h]
      have e : (⟨k % 256, Nat.mod_lt _ (by decide)⟩ : Fin 256) = ct ⟨k, Nat.lt_of_succ_lt hn⟩ :=
        Fin.ext (Nat.mod_eq_of_lt (lt_of_lt_of_eq (Nat.lt_of_succ_lt hn) N_0))
      rw [e]
      exact congrArg (fun S => stNext (XK m c) (ct ⟨k + 1, hn⟩) S d j p) (funext fun d => funext fun j => funext fun p => ih (Nat.lt_of_succ_lt hn) d j p)

/-- What point `t` writes back is chunk `t`'s output. -/
theorem out_all (c : Dev nD) (t : Fin cfg0.N) (l : Fin 128) (q : Fin 1024) :
    ((outsAt0 m c t.val t.isLt).1 (ix2 l q) : EReal) = out (XK m c) (ct t) l q := by
  unfold out
  by_cases h : t.val % 128 = 0
  · refine (out_A m c t h l q).trans ?_
    have e : st (XK m c) (ct t).val = fun _ _ _ => 0 := by
      show st (XK m c) t.val = _
      obtain ⟨n, hn⟩ := t
      cases n with
      | zero => rfl
      | succ k => rw [st]; exact if_pos h
    rw [e]
  · refine (out_B m c t h l q).trans ?_
    obtain ⟨n, hn⟩ := t
    cases n with
    | zero => exact absurd rfl h
    | succ k =>
      have e : (⟨k % 256, Nat.mod_lt _ (by decide)⟩ : Fin 256) = ct ⟨k, Nat.lt_of_succ_lt hn⟩ :=
        Fin.ext (Nat.mod_eq_of_lt (lt_of_lt_of_eq (Nat.lt_of_succ_lt hn) N_0))
      have e' : st (XK m c) (ct ⟨k + 1, hn⟩).val = stNext (XK m c) (ct ⟨k, Nat.lt_of_succ_lt hn⟩) (st (XK m c) k) := by
        show st (XK m c) (k + 1) = _
        rw [st, if_neg h, e]
      rw [e']
      exact congrArg (fun S => normed (XK m c) (ct ⟨k + 1, hn⟩) S l q) (funext fun d => funext fun j => funext fun p => state_all m c k (Nat.lt_of_succ_lt hn) d j p)

/-- The kernel's result. -/
theorem result_all (c : Dev nD) (t : Fin 256) (l : Fin 128) (q : Fin 1024) :
    (Value.G9 m c (ix2 (⟨128 * t.val + l.val, by omega⟩ : Fin 32768) q) : EReal) = out (XK m c) t l q := by
  have hN : t.val < cfg0.N := lt_of_lt_of_eq t.isLt N_0.symm
  have hp : Value.pt9Of (ix2 (⟨128 * t.val + l.val, by omega⟩ : Fin 32768) q) = t.val := by
    show 1 * ((128 * t.val + l.val) / 128 - 0) + 1 * (q.val / 1024 - 0) = t.val
    omega
  have hl : Value.loc9Of (ix2 (⟨128 * t.val + l.val, by omega⟩ : Fin 32768) q) = ix2 l q := by
    refine funext fun a => Fin.ext ?_
    fin_cases a
    · show (128 * t.val + l.val) % 128 = l.val; omega
    · show q.val % 1024 = q.val; omega
  unfold Value.G9
  rw [dif_pos (lt_of_eq_of_lt hp hN), hl]
  refine Eq.trans ?_ (out_all m c ⟨t.val, hN⟩ l q)
  rw [Value.outsAt0_sweep m c t.val hN]
  exact congrArg (fun z : Vec Ideal S128x1024 .f32 × Vec Ideal S136x1536 .f32 × Vec Ideal S16x128x64 .f32 => (z.1 (ix2 l q) : EReal)) (Value.fold0_congr m c _ _ _ _ hp)

end Cert.Ssd.Ker

end
-- ==== Proof.RefConv.lean ====
/-
  What the reference's convolution computes: the activated convolution of the projection's columns, and the heads' inputs and the
  two projections of the state cut out of it.
-/
module

public import proofs.«01_k».proof.Proof.RefSteps
public import proofs.«01_k».proof.Proof.Spec

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The padding's value: the integer zero as a number. -/
theorem pad_zero : FloatOps.sitofp (F := Ideal) FTy.f32 (0#32) = (0 : EReal) := by
  show (((0#32 : BitVec 32).toInt : ℝ) : EReal) = 0
  simp

/-- The padded input shifted by 0 rows is the tap 0 rows back. -/
theorem tap_v27 (b : Fin 2) (c l : Fin 128) (ch : Fin 1536) : A_main_v27 (F := Ideal) a0 a1 a2 a3 a4 a5 (ix3 b (row c l) ch) = tap X (tc b c) l 0 ch := by
  obtain ⟨r, hr⟩ : ∃ r, r = row c l := ⟨_, rfl⟩
  rw [← hr]
  have hv : r.val = 128 * c.val + l.val := by rw [hr]; rfl
  pointwise [A_main_v27, A_main_v4, A_main_v1, A_main_v0, K_main_call0_v0, K_main_c]
  rw [tap, if_pos (Nat.zero_le _)]
  exact congrArg (fun r => a0 (ix2 r _)) (Fin.ext (by simp [tc]; omega))

/-- The padded input shifted by 1 rows is the tap 1 rows back. -/
theorem tap_v20 (b : Fin 2) (c l : Fin 128) (ch : Fin 1536) : A_main_v20 (F := Ideal) a0 a1 a2 a3 a4 a5 (ix3 b (row c l) ch) = tap X (tc b c) l 1 ch := by
  obtain ⟨r, hr⟩ : ∃ r, r = row c l := ⟨_, rfl⟩
  rw [← hr]
  have hv : r.val = 128 * c.val + l.val := by rw [hr]; rfl
  pointwise [A_main_v20, A_main_v4, A_main_v1, A_main_v0, K_main_call0_v0, K_main_c]
  by_cases h : 1 ≤ 128 * c.val + l.val
  · rw [tap, if_pos (show 1 ≤ 128 * ((tc b c).val % 128) + l.val by simp [tc]; omega)]
    rw [dif_pos (by omega)]
    exact congrArg (fun r => a0 (ix2 r _)) (Fin.ext (by simp [tc]; omega))
  · rw [tap, if_neg (show ¬ 1 ≤ 128 * ((tc b c).val % 128) + l.val by simp [tc]; omega)]
    rw [dif_neg (by omega)]
    exact pad_zero

/-- The padded input shifted by 2 rows is the tap 2 rows back. -/
theorem tap_v13 (b : Fin 2) (c l : Fin 128) (ch : Fin 1536) : A_main_v13 (F := Ideal) a0 a1 a2 a3 a4 a5 (ix3 b (row c l) ch) = tap X (tc b c) l 2 ch := by
  obtain ⟨r, hr⟩ : ∃ r, r = row c l := ⟨_, rfl⟩
  rw [← hr]
  have hv : r.val = 128 * c.val + l.val := by rw [hr]; rfl
  pointwise [A_main_v13, A_main_v4, A_main_v1, A_main_v0, K_main_call0_v0, K_main_c]
  by_cases h : 2 ≤ 128 * c.val + l.val
  · rw [tap, if_pos (show 2 ≤ 128 * ((tc b c).val % 128) + l.val by simp [tc]; omega)]
    rw [dif_pos (by omega)]
    exact congrArg (fun r => a0 (ix2 r _)) (Fin.ext (by simp [tc]; omega))
  · rw [tap, if_neg (show ¬ 2 ≤ 128 * ((tc b c).val % 128) + l.val by simp [tc]; omega)]
    rw [dif_neg (by omega)]
    exact pad_zero

/-- The padded input shifted by 3 rows is the tap 3 rows back. -/
theorem tap_v5 (b : Fin 2) (c l : Fin 128) (ch : Fin 1536) : A_main_v5 (F := Ideal) a0 a1 a2 a3 a4 a5 (ix3 b (row c l) ch) = tap X (tc b c) l 3 ch := by
  obtain ⟨r, hr⟩ : ∃ r, r = row c l := ⟨_, rfl⟩
  rw [← hr]
  have hv : r.val = 128 * c.val + l.val := by rw [hr]; rfl
  pointwise [A_main_v5, A_main_v4, A_main_v1, A_main_v0, K_main_call0_v0, K_main_c]
  by_cases h : 3 ≤ 128 * c.val + l.val
  · rw [tap, if_pos (show 3 ≤ 128 * ((tc b c).val % 128) + l.val by simp [tc]; omega)]
    rw [dif_pos (by omega)]
    exact congrArg (fun r => a0 (ix2 r _)) (Fin.ext (by simp [tc]; omega))
  · rw [tap, if_neg (show ¬ 3 ≤ 128 * ((tc b c).val % 128) + l.val by simp [tc]; omega)]
    rw [dif_neg (by omega)]
    exact pad_zero

/-- The convolution as the sum of its four taps and the bias. -/
theorem w1 (b : Fin 2) (r : Fin 16384) (ch : Fin 1536) : A_main_v36 (F := Ideal) a0 a1 a2 a3 a4 a5 (ix3 b r ch) = a2 (ix1 ch) + a1 (ix2 3 ch) * A_main_v27 (F := Ideal) a0 a1 a2 a3 a4 a5 (ix3 b r ch)
   + a1 (ix2 2 ch) * A_main_v20 (F := Ideal) a0 a1 a2 a3 a4 a5 (ix3 b r ch) + a1 (ix2 1 ch) * A_main_v13 (F := Ideal) a0 a1 a2 a3 a4 a5 (ix3 b r ch) + a1 (ix2 0 ch) * A_main_v5 (F := Ideal) a0 a1 a2 a3 a4 a5 (ix3 b r ch) := by
  pointwise [A_main_v36, A_main_v35, A_main_v34, A_main_v33, A_main_v32, A_main_v31, A_main_v30, A_main_v29, A_main_v28, A_main_v26, A_main_v25, A_main_v24, A_main_v23, A_main_v22, A_main_v21, A_main_v19, A_main_v18, A_main_v17, A_main_v16, A_main_v15, A_main_v14, A_main_v12, A_main_v10, A_main_v9, A_main_v8, A_main_v7, A_main_v6, K_main_v11, K_main_cst]
  generalize A_main_v5 (F := Ideal) _ _ _ _ _ _ _ = p
  generalize A_main_v13 (F := Ideal) _ _ _ _ _ _ _ = q
  generalize A_main_v20 (F := Ideal) _ _ _ _ _ _ _ = r
  generalize A_main_v27 (F := Ideal) _ _ _ _ _ _ _ = s
  rw [mul_comm p, mul_comm q, mul_comm r, mul_comm s]
  ac_rfl

/-- The activation. -/
theorem w2 (b : Fin 2) (r : Fin 16384) (ch : Fin 1536) : A_main_v37 (F := Ideal) a0 a1 a2 a3 a4 a5 (ix3 b r ch) = silu (A_main_v36 (F := Ideal) a0 a1 a2 a3 a4 a5 (ix3 b r ch)) := by
  unfold silu
  pointwise [A_main_v37, A_main_call1_v5, A_main_call1_v3, A_main_call1_v1, A_main_call1_v0, K_main_call1_v2, K_main_call1_v4, K_main_call1_cst, K_main_call1_cst_0]

/-- The activated convolution. -/
theorem act_eq (b : Fin 2) (c l : Fin 128) (ch : Fin 1536) : A_main_v37 (F := Ideal) a0 a1 a2 a3 a4 a5 (ix3 b (row c l) ch) = act X (tc b c) l ch := by
  rw [w2, w1, tap_v27 (a6 := a6), tap_v20 (a6 := a6), tap_v13 (a6 := a6), tap_v5 (a6 := a6)]
  rfl

/-- The heads' inputs, by column. -/
theorem w3 (b : Fin 2) (c l : Fin 128) (g : Fin 2) (j : Fin 8) (p : Fin 64) : A_main_v41 (F := Ideal) a0 a1 a2 a3 a4 a5 (ix6 b c l g j p) = A_main_v37 (F := Ideal) a0 a1 a2 a3 a4 a5 (ix3 b (row c l) ⟨64 * (hd g j).val + p.val, by simp [hd]; omega⟩) := by
  unfold hd row
  pointwise [A_main_v41, A_main_v38]
  first | rfl | (congr 2 <;> exact Fin.ext (by simp; omega))

/-- The input projection, by column. -/
theorem w4 (b : Fin 2) (c l : Fin 128) (g : Fin 2) (j : Fin 8) (p : Fin 128) : A_main_v42 (F := Ideal) a0 a1 a2 a3 a4 a5 (ix5 b c l g p) = A_main_v37 (F := Ideal) a0 a1 a2 a3 a4 a5 (ix3 b (row c l) ⟨1024 + 128 * ((hd g j).val/8) + p.val, by simp [hd]; omega⟩) := by
  unfold hd row
  pointwise [A_main_v42, A_main_v39]
  first | rfl | (congr 2 <;> exact Fin.ext (by simp; omega))

/-- The output projection, by column. -/
theorem w5 (b : Fin 2) (c l : Fin 128) (g : Fin 2) (j : Fin 8) (p : Fin 128) : A_main_v43 (F := Ideal) a0 a1 a2 a3 a4 a5 (ix5 b c l g p) = A_main_v37 (F := Ideal) a0 a1 a2 a3 a4 a5 (ix3 b (row c l) ⟨1280 + 128 * ((hd g j).val/8) + p.val, by simp [hd]; omega⟩) := by
  unfold hd row
  pointwise [A_main_v43, A_main_v40]
  first | rfl | (congr 2 <;> exact Fin.ext (by simp; omega))

/-- The heads' inputs. -/
theorem x_eq (b : Fin 2) (c l : Fin 128) (g : Fin 2) (j : Fin 8) (p : Fin 64) : A_main_v41 (F := Ideal) a0 a1 a2 a3 a4 a5 (ix6 b c l g j p) = xh X (tc b c) l (hd g j) p := by
  rw [w3, act_eq (a6 := a6)]; rfl

/-- The input projection of the state. -/
theorem b_eq (b : Fin 2) (c l : Fin 128) (g : Fin 2) (j : Fin 8) (n : Fin 128) : A_main_v42 (F := Ideal) a0 a1 a2 a3 a4 a5 (ix5 b c l g n) = bm X (tc b c) l (hd g j) n := by
  rw [w4 (j := j), act_eq (a6 := a6)]; rfl

/-- The output projection of the state. -/
theorem c_eq (b : Fin 2) (c l : Fin 128) (g : Fin 2) (j : Fin 8) (n : Fin 128) : A_main_v43 (F := Ideal) a0 a1 a2 a3 a4 a5 (ix5 b c l g n) = cm X (tc b c) l (hd g j) n := by
  rw [w5 (j := j), act_eq (a6 := a6)]; rfl

end Cert.Ssd.Ref

end
-- ==== Proof.RefDt.lean ====
/-
  What the reference computes of the step sizes: the softplus of the projection's columns and the bias, and the running sums of the
  decay's logarithm over a chunk.
-/
module

public import proofs.«01_k».proof.Proof.RefSteps
public import proofs.«01_k».proof.Proof.Spec

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The step size of a column. -/
theorem w6 (b : Fin 2) (r : Fin 16384) (d : Fin 16) : A_main_v47 (F := Ideal) a0 a1 a2 a3 a4 a5 (ix3 b r d) = softplus (A_main_v46 (F := Ideal) a0 a1 a2 a3 a4 a5 (ix3 b r d)) := by
  unfold softplus
  pointwise [A_main_v47, A_main_call2_v11, A_main_call2_v10, A_main_call2_v9, A_main_call2_v8, A_main_call2_v7, A_main_call2_v6, A_main_call2_v4, A_main_call2_v3, A_main_call2_v1, K_main_call2_v0, K_main_call2_v2, K_main_call2_v5, K_main_call2_cst]
  rw [if_neg (by simp)]
  rfl

/-- The step sizes by group and head. -/
theorem w7 (b : Fin 2) (c l : Fin 128) (g : Fin 2) (j : Fin 8) : A_main_v48 (F := Ideal) a0 a1 a2 a3 a4 a5 (ix5 b c l g j) = A_main_v47 (F := Ideal) a0 a1 a2 a3 a4 a5 (ix3 b (row c l) (hd g j)) := by
  unfold hd row
  pointwise [A_main_v48]
  first | rfl | (congr 2 <;> exact Fin.ext (by simp; omega))

/-- What the step size is taken of. -/
theorem w8 (b : Fin 2) (c l : Fin 128) (g : Fin 2) (j : Fin 8) : A_main_v46 (F := Ideal) a0 a1 a2 a3 a4 a5 (ix3 b (row c l) (hd g j)) = (X).h ⟨128 * (tc b c).val + l.val, by omega⟩ ⟨5760 + (hd g j).val, by omega⟩ + (X).dtb (hd g j) := by
  unfold hd row tc inp
  pointwise [A_main_v46, A_main_v45, A_main_v44, A_main_v3, A_main_v2]
  first | rfl | (congr 3 <;> exact Fin.ext (by simp; omega))

/-- The step sizes. -/
theorem dt_eq (b : Fin 2) (c l : Fin 128) (g : Fin 2) (j : Fin 8) : A_main_v48 (F := Ideal) a0 a1 a2 a3 a4 a5 (ix5 b c l g j) = dt X (tc b c) l (hd g j) := by
  rw [w7, w6, w8 (a6 := a6)]; rfl

/-- The decay's logarithm at a row. -/
theorem u1 (b : Fin 2) (c l : Fin 128) (g : Fin 2) (j : Fin 8) : A_main_v55 (F := Ideal) a0 a1 a2 a3 a4 a5 (ix5 b c g j l) = A_main_v48 (F := Ideal) a0 a1 a2 a3 a4 a5 (ix5 b c l g j) * -Ideal.exp (a4 (ix1 (hd g j))) := by
  have h53 : A_main_v53 (F := Ideal) a0 a1 a2 a3 a4 a5 (ix5 b c l g j) = -Ideal.exp (a4 (ix1 (hd g j))) := by
    unfold hd
    pointwise [A_main_v53, A_main_v52, A_main_v51, A_main_v50, A_main_v49]
    first | rfl | (congr 3; exact congrArg ix1 (Fin.ext (by simp; omega)))
  rw [← h53]
  pointwise [A_main_v55, A_main_v54]

/-- Adding up a list from the left is its start plus the sum. -/
theorem foldl_add {N : ℕ} (f : Fin N → EReal) (v : EReal) : (List.finRange N).foldl (fun r n => r + f n) v = v + ∑ n, f n := by
  rw [Fin.sum_univ_def]
  generalize List.finRange N = L
  induction L generalizing v with
  | nil => simp
  | cons a L ih => simp [ih, add_assoc]

/-- The window: 128 places along the last axis. -/
abbrev Wn : Shape := ⟨5, ![1, 1, 1, 1, 128]⟩

/-- A sum over the window by the place on its last axis. -/
theorem sum_win (f : Fin Wn.numel → EReal) : ∑ n, f n = ∑ k : Fin 128, f (Wn.rowMajor (ix5 0 0 0 0 k)) := by
  rw [← Equiv.sum_comp Wn.rowMajor f]
  symm
  refine Fintype.sum_bijective (fun k : Fin 128 => (ix5 0 0 0 0 k : Wn.Idx)) ⟨fun k k' h => ?_, fun w => ⟨w 4, ?_⟩⟩ _ _ (fun _ => rfl)
  · exact congrFun h 4
  · funext a
    fin_cases a <;> first | rfl | exact Subsingleton.elim (α := Fin 1) _ _

/-- The running sum at row `l` adds the rows up to `l`. -/
theorem cs (b : Fin 2) (c l : Fin 128) (g : Fin 2) (j : Fin 8) : A_main_v56 (F := Ideal) a0 a1 a2 a3 a4 a5 (ix5 b c g j l) = ∑ s : Fin 128, if s ≤ l then A_main_v55 (F := Ideal) a0 a1 a2 a3 a4 a5 (ix5 b c g j s) else 0 := by
  have h0 : K_main_call3_call0_v0 (F := Ideal) (Shape.Idx.first h_S_) = 0 := by
    pointwise [K_main_call3_call0_v0, K_main_call3_call0_cst]
  unfold A_main_v56
  generalize A_main_v55 (F := Ideal) a0 a1 a2 a3 a4 a5 = w
  simp only [Host.reduceWindowAdd, Ideal.hostReduceWindowAdd_def, Ideal.hostReduceWindowAdd, Host.reduceWindow]
  rw [foldl_add, h0, zero_add]
  refine (sum_win _).trans ?_
  refine Fintype.sum_equiv (Equiv.addRight (l + 1)) _ _ fun k => ?_
  simp only [Equiv.symm_apply_apply]
  have hv : (k + (l + 1)).val = (k.val + l.val + 1) % 128 := by simp [Fin.val_add]; omega
  show _ = if k + (l + 1) ≤ l then w (ix5 b c g j (k + (l + 1))) else 0
  by_cases h : 127 ≤ k.val + l.val
  · rw [dif_pos, if_pos]
    · refine congrArg w (funext fun a => ?_)
      fin_cases a <;> refine Fin.ext ?_
      · (simp; try omega)
      · simp
      · (simp; try omega)
      · (simp; try omega)
      · show l.val * 1 + k.val - 127 = (k + (l + 1)).val
        omega
    · exact Fin.le_def.2 (by omega)
    · intro a
      fin_cases a
      · (simp; try omega)
      · simp
      · (simp; try omega)
      · (simp; try omega)
      · show 127 ≤ l.val * 1 + k.val ∧ l.val * 1 + k.val - 127 < 128
        omega
  · rw [dif_neg, if_neg]
    · exact fun h' => by have := Fin.le_def.1 h'; omega
    · intro h'
      have : 127 ≤ l.val * 1 + k.val := (h' 4).1
      omega

/-- The running sums of the decay's logarithm. -/
theorem acs_eq (b : Fin 2) (c l : Fin 128) (g : Fin 2) (j : Fin 8) : A_main_v56 (F := Ideal) a0 a1 a2 a3 a4 a5 (ix5 b c g j l) = acs X (tc b c) l (hd g j) := by
  rw [cs]
  refine Finset.sum_congr rfl fun s _ => ?_
  rw [u1, dt_eq (a6 := a6)]
  rfl

end Cert.Ssd.Ref

end
-- ==== Proof.RefOps.lean ====
/-
  The reference's operations on a chunk, each read at an index: the transposes, the broadcasts, the products and the sums between the
  activated convolution, the step sizes and what the loop over the chunks reads.
-/
module

public import proofs.«01_k».proof.Proof.RefSteps
public import proofs.«01_k».proof.Proof.Spec

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- `A_main_v59` at an index. -/
theorem r59 (b : Fin 2) (c : Fin 128) (g : Fin 2) (j : Fin 8) (l : Fin 128) (p : Fin 64) :
    A_main_v59 (F := Ideal) a0 a1 a2 a3 a4 a5 (ix6 b c l g j p) = A_main_v41 (F := Ideal) a0 a1 a2 a3 a4 a5 (ix6 b c l g j p) * A_main_v58 (F := Ideal) a0 a1 a2 a3 a4 a5 (ix6 b c l g j p) := by
  unfold A_main_v59
  generalize A_main_v41 (F := Ideal) a0 a1 a2 a3 a4 a5 = v41
  generalize A_main_v58 (F := Ideal) a0 a1 a2 a3 a4 a5 = v58
  exact mulf_apply _ _ _

/-- `A_main_v58` at an index. -/
theorem r58 (b : Fin 2) (c : Fin 128) (g : Fin 2) (j : Fin 8) (l : Fin 128) (p : Fin 64) :
    A_main_v58 (F := Ideal) a0 a1 a2 a3 a4 a5 (ix6 b c l g j p) = A_main_v57 (F := Ideal) a0 a1 a2 a3 a4 a5 (ix6 b c l g j 0) := by
  unfold A_main_v58
  generalize A_main_v57 (F := Ideal) a0 a1 a2 a3 a4 a5 = v57
  pointwise

/-- `A_main_v57` at an index. -/
theorem r57 (b : Fin 2) (c : Fin 128) (g : Fin 2) (j : Fin 8) (l : Fin 128) :
    A_main_v57 (F := Ideal) a0 a1 a2 a3 a4 a5 (ix6 b c l g j 0) = A_main_v48 (F := Ideal) a0 a1 a2 a3 a4 a5 (ix5 b c l g j) := by
  unfold A_main_v57
  generalize A_main_v48 (F := Ideal) a0 a1 a2 a3 a4 a5 = v48
  pointwise

/-- `A_main_v66` at an index. -/
theorem r66 (b : Fin 2) (c : Fin 128) (g : Fin 2) (j : Fin 8) (l : Fin 128) :
    A_main_v66 (F := Ideal) a0 a1 a2 a3 a4 a5 (ix6 b c g j l 0) = A_main_v56 (F := Ideal) a0 a1 a2 a3 a4 a5 (ix5 b c g j l) := by
  unfold A_main_v66
  generalize A_main_v56 (F := Ideal) a0 a1 a2 a3 a4 a5 = v56
  pointwise

/-- `A_main_v67` at an index. -/
theorem r67 (b : Fin 2) (c : Fin 128) (g : Fin 2) (j : Fin 8) (s : Fin 128) :
    A_main_v67 (F := Ideal) a0 a1 a2 a3 a4 a5 (ix6 b c g j 0 s) = A_main_v56 (F := Ideal) a0 a1 a2 a3 a4 a5 (ix5 b c g j s) := by
  unfold A_main_v67
  generalize A_main_v56 (F := Ideal) a0 a1 a2 a3 a4 a5 = v56
  pointwise

/-- `A_main_v68` at an index. -/
theorem r68 (b : Fin 2) (c : Fin 128) (g : Fin 2) (j : Fin 8) (l : Fin 128) (s : Fin 128) :
    A_main_v68 (F := Ideal) a0 a1 a2 a3 a4 a5 (ix6 b c g j l s) = A_main_v66 (F := Ideal) a0 a1 a2 a3 a4 a5 (ix6 b c g j l 0) := by
  unfold A_main_v68
  generalize A_main_v66 (F := Ideal) a0 a1 a2 a3 a4 a5 = v66
  pointwise

/-- `A_main_v69` at an index. -/
theorem r69 (b : Fin 2) (c : Fin 128) (g : Fin 2) (j : Fin 8) (l : Fin 128) (s : Fin 128) :
    A_main_v69 (F := Ideal) a0 a1 a2 a3 a4 a5 (ix6 b c g j l s) = A_main_v67 (F := Ideal) a0 a1 a2 a3 a4 a5 (ix6 b c g j 0 s) := by
  unfold A_main_v69
  generalize A_main_v67 (F := Ideal) a0 a1 a2 a3 a4 a5 = v67
  pointwise

/-- `A_main_v70` at an index. -/
theorem r70 (b : Fin 2) (c : Fin 128) (g : Fin 2) (j : Fin 8) (l : Fin 128) (s : Fin 128) :
    A_main_v70 (F := Ideal) a0 a1 a2 a3 a4 a5 (ix6 b c g j l s) = A_main_v68 (F := Ideal) a0 a1 a2 a3 a4 a5 (ix6 b c g j l s) - A_main_v69 (F := Ideal) a0 a1 a2 a3 a4 a5 (ix6 b c g j l s) := by
  unfold A_main_v70
  generalize A_main_v68 (F := Ideal) a0 a1 a2 a3 a4 a5 = v68
  generalize A_main_v69 (F := Ideal) a0 a1 a2 a3 a4 a5 = v69
  pointwise

/-- `A_main_v72` at an index. -/
theorem r72 (b : Fin 2) (c : Fin 128) (g : Fin 2) (j : Fin 8) (l : Fin 128) (s : Fin 128) :
    A_main_v72 (F := Ideal) a0 a1 a2 a3 a4 a5 (ix6 b c g j l s) = Ideal.exp (A_main_v71 (F := Ideal) a0 a1 a2 a3 a4 a5 (ix6 b c g j l s)) := by
  unfold A_main_v72
  generalize A_main_v71 (F := Ideal) a0 a1 a2 a3 a4 a5 = v71
  pointwise

/-- `A_main_v71` at an index. -/
theorem r71 (b : Fin 2) (c : Fin 128) (g : Fin 2) (j : Fin 8) (l s : Fin 128) : A_main_v71 (F := Ideal) a0 a1 a2 a3 a4 a5 (ix6 b c g j l s) = if s ≤ l then A_main_v70 (F := Ideal) a0 a1 a2 a3 a4 a5 (ix6 b c g j l s) else ⊥ := by
  unfold A_main_v71
  generalize A_main_v70 (F := Ideal) a0 a1 a2 a3 a4 a5 = v70
  pointwise [K_main_call4_v1, K_main_call4_v2, K_main_call4_v0, K_main_cst_0, K_main_v65, K_main_v64, K_main_v63, K_main_v62, K_main_v61, K_main_v60]
  rw [select_sge]
  show (if s ≤ l then _ else Ideal.ofBits FTy.f32 4286578688#32) = _
  rw [ofBits_neg_inf]

/-- `A_main_v73` at an index. -/
theorem r73 (b : Fin 2) (c : Fin 128) (g : Fin 2) (l : Fin 128) (s : Fin 128) :
    A_main_v73 (F := Ideal) a0 a1 a2 a3 a4 a5 (ix5 b c g l s) = ∑ n : Fin 128, A_main_v43 (F := Ideal) a0 a1 a2 a3 a4 a5 (ix5 b c l g n) * A_main_v42 (F := Ideal) a0 a1 a2 a3 a4 a5 (ix5 b c s g n) := by
  unfold A_main_v73
  generalize A_main_v43 (F := Ideal) a0 a1 a2 a3 a4 a5 = v43
  generalize A_main_v42 (F := Ideal) a0 a1 a2 a3 a4 a5 = v42
  pointwise

/-- `A_main_v74` at an index. -/
theorem r74 (b : Fin 2) (c : Fin 128) (g : Fin 2) (l : Fin 128) (s : Fin 128) :
    A_main_v74 (F := Ideal) a0 a1 a2 a3 a4 a5 (ix6 b c g 0 l s) = A_main_v73 (F := Ideal) a0 a1 a2 a3 a4 a5 (ix5 b c g l s) := by
  unfold A_main_v74
  generalize A_main_v73 (F := Ideal) a0 a1 a2 a3 a4 a5 = v73
  pointwise

/-- `A_main_v75` at an index. -/
theorem r75 (b : Fin 2) (c : Fin 128) (g : Fin 2) (j : Fin 8) (l : Fin 128) (s : Fin 128) :
    A_main_v75 (F := Ideal) a0 a1 a2 a3 a4 a5 (ix6 b c g j l s) = A_main_v74 (F := Ideal) a0 a1 a2 a3 a4 a5 (ix6 b c g 0 l s) := by
  unfold A_main_v75
  generalize A_main_v74 (F := Ideal) a0 a1 a2 a3 a4 a5 = v74
  pointwise

/-- `A_main_v76` at an index. -/
theorem r76 (b : Fin 2) (c : Fin 128) (g : Fin 2) (j : Fin 8) (l : Fin 128) (s : Fin 128) :
    A_main_v76 (F := Ideal) a0 a1 a2 a3 a4 a5 (ix6 b c g j l s) = A_main_v75 (F := Ideal) a0 a1 a2 a3 a4 a5 (ix6 b c g j l s) * A_main_v72 (F := Ideal) a0 a1 a2 a3 a4 a5 (ix6 b c g j l s) := by
  unfold A_main_v76
  generalize A_main_v75 (F := Ideal) a0 a1 a2 a3 a4 a5 = v75
  generalize A_main_v72 (F := Ideal) a0 a1 a2 a3 a4 a5 = v72
  exact mulf_apply _ _ _

/-- `A_main_v77` at an index. -/
theorem r77 (b : Fin 2) (c : Fin 128) (g : Fin 2) (j : Fin 8) (l : Fin 128) (p : Fin 64) :
    A_main_v77 (F := Ideal) a0 a1 a2 a3 a4 a5 (ix6 b c g j p l) = ∑ s : Fin 128, A_main_v59 (F := Ideal) a0 a1 a2 a3 a4 a5 (ix6 b c s g j p) * A_main_v76 (F := Ideal) a0 a1 a2 a3 a4 a5 (ix6 b c g j l s) := by
  unfold A_main_v77
  generalize A_main_v59 (F := Ideal) a0 a1 a2 a3 a4 a5 = v59
  generalize A_main_v76 (F := Ideal) a0 a1 a2 a3 a4 a5 = v76
  pointwise

/-- `A_main_v78` at an index. -/
theorem r78 (b : Fin 2) (c : Fin 128) (g : Fin 2) (j : Fin 8) (l : Fin 128) (p : Fin 64) :
    A_main_v78 (F := Ideal) a0 a1 a2 a3 a4 a5 (ix6 b c l g j p) = A_main_v77 (F := Ideal) a0 a1 a2 a3 a4 a5 (ix6 b c g j p l) := by
  unfold A_main_v78
  generalize A_main_v77 (F := Ideal) a0 a1 a2 a3 a4 a5 = v77
  pointwise

/-- `A_main_v79` at an index. -/
theorem r79 (b : Fin 2) (c : Fin 128) (g : Fin 2) (j : Fin 8) :
    A_main_v79 (F := Ideal) a0 a1 a2 a3 a4 a5 (ix5 b c g j 0) = A_main_v56 (F := Ideal) a0 a1 a2 a3 a4 a5 (ix5 b c g j 127) := by
  unfold A_main_v79
  generalize A_main_v56 (F := Ideal) a0 a1 a2 a3 a4 a5 = v56
  pointwise

/-- `A_main_v80` at an index. -/
theorem r80 (b : Fin 2) (c : Fin 128) (g : Fin 2) (j : Fin 8) (l : Fin 128) :
    A_main_v80 (F := Ideal) a0 a1 a2 a3 a4 a5 (ix5 b c g j l) = A_main_v79 (F := Ideal) a0 a1 a2 a3 a4 a5 (ix5 b c g j 0) := by
  unfold A_main_v80
  generalize A_main_v79 (F := Ideal) a0 a1 a2 a3 a4 a5 = v79
  pointwise

/-- `A_main_v81` at an index. -/
theorem r81 (b : Fin 2) (c : Fin 128) (g : Fin 2) (j : Fin 8) (l : Fin 128) :
    A_main_v81 (F := Ideal) a0 a1 a2 a3 a4 a5 (ix5 b c g j l) = A_main_v80 (F := Ideal) a0 a1 a2 a3 a4 a5 (ix5 b c g j l) - A_main_v56 (F := Ideal) a0 a1 a2 a3 a4 a5 (ix5 b c g j l) := by
  unfold A_main_v81
  generalize A_main_v80 (F := Ideal) a0 a1 a2 a3 a4 a5 = v80
  generalize A_main_v56 (F := Ideal) a0 a1 a2 a3 a4 a5 = v56
  pointwise

/-- `A_main_v82` at an index. -/
theorem r82 (b : Fin 2) (c : Fin 128) (g : Fin 2) (j : Fin 8) (l : Fin 128) :
    A_main_v82 (F := Ideal) a0 a1 a2 a3 a4 a5 (ix5 b c g j l) = Ideal.exp (A_main_v81 (F := Ideal) a0 a1 a2 a3 a4 a5 (ix5 b c g j l)) := by
  unfold A_main_v82
  generalize A_main_v81 (F := Ideal) a0 a1 a2 a3 a4 a5 = v81
  pointwise

/-- `A_main_v83` at an index. -/
theorem r83 (b : Fin 2) (c : Fin 128) (g : Fin 2) (j : Fin 8) (l : Fin 128) :
    A_main_v83 (F := Ideal) a0 a1 a2 a3 a4 a5 (ix5 b c l g j) = A_main_v82 (F := Ideal) a0 a1 a2 a3 a4 a5 (ix5 b c g j l) := by
  unfold A_main_v83
  generalize A_main_v82 (F := Ideal) a0 a1 a2 a3 a4 a5 = v82
  pointwise

/-- `A_main_v84` at an index. -/
theorem r84 (b : Fin 2) (c : Fin 128) (g : Fin 2) (j : Fin 8) (l : Fin 128) :
    A_main_v84 (F := Ideal) a0 a1 a2 a3 a4 a5 (ix6 b c l g j 0) = A_main_v83 (F := Ideal) a0 a1 a2 a3 a4 a5 (ix5 b c l g j) := by
  unfold A_main_v84
  generalize A_main_v83 (F := Ideal) a0 a1 a2 a3 a4 a5 = v83
  pointwise

/-- `A_main_v85` at an index. -/
theorem r85 (b : Fin 2) (c : Fin 128) (g : Fin 2) (j : Fin 8) (l : Fin 128) (p : Fin 64) :
    A_main_v85 (F := Ideal) a0 a1 a2 a3 a4 a5 (ix6 b c l g j p) = A_main_v84 (F := Ideal) a0 a1 a2 a3 a4 a5 (ix6 b c l g j 0) := by
  unfold A_main_v85
  generalize A_main_v84 (F := Ideal) a0 a1 a2 a3 a4 a5 = v84
  pointwise

/-- `A_main_v86` at an index. -/
theorem r86 (b : Fin 2) (c : Fin 128) (g : Fin 2) (j : Fin 8) (l : Fin 128) (p : Fin 64) :
    A_main_v86 (F := Ideal) a0 a1 a2 a3 a4 a5 (ix6 b c l g j p) = A_main_v59 (F := Ideal) a0 a1 a2 a3 a4 a5 (ix6 b c l g j p) * A_main_v85 (F := Ideal) a0 a1 a2 a3 a4 a5 (ix6 b c l g j p) := by
  unfold A_main_v86
  generalize A_main_v59 (F := Ideal) a0 a1 a2 a3 a4 a5 = v59
  generalize A_main_v85 (F := Ideal) a0 a1 a2 a3 a4 a5 = v85
  exact mulf_apply _ _ _

/-- `A_main_v87` at an index. -/
theorem r87 (b : Fin 2) (c : Fin 128) (g : Fin 2) (j : Fin 8) (p : Fin 64) (n : Fin 128) :
    A_main_v87 (F := Ideal) a0 a1 a2 a3 a4 a5 (ix6 b c g j p n) = ∑ l : Fin 128, A_main_v86 (F := Ideal) a0 a1 a2 a3 a4 a5 (ix6 b c l g j p) * A_main_v42 (F := Ideal) a0 a1 a2 a3 a4 a5 (ix5 b c l g n) := by
  unfold A_main_v87
  generalize A_main_v86 (F := Ideal) a0 a1 a2 a3 a4 a5 = v86
  generalize A_main_v42 (F := Ideal) a0 a1 a2 a3 a4 a5 = v42
  pointwise

/-- `A_main_v88` at an index. -/
theorem r88 (b : Fin 2) (c : Fin 128) (g : Fin 2) (j : Fin 8) :
    A_main_v88 (F := Ideal) a0 a1 a2 a3 a4 a5 (ix5 b c g j 0) = A_main_v56 (F := Ideal) a0 a1 a2 a3 a4 a5 (ix5 b c g j 127) := by
  unfold A_main_v88
  generalize A_main_v56 (F := Ideal) a0 a1 a2 a3 a4 a5 = v56
  pointwise

/-- `A_main_v89` at an index. -/
theorem r89 (b : Fin 2) (c : Fin 128) (g : Fin 2) (j : Fin 8) :
    A_main_v89 (F := Ideal) a0 a1 a2 a3 a4 a5 (ix4 b c g j) = A_main_v88 (F := Ideal) a0 a1 a2 a3 a4 a5 (ix5 b c g j 0) := by
  unfold A_main_v89
  generalize A_main_v88 (F := Ideal) a0 a1 a2 a3 a4 a5 = v88
  pointwise

/-- `A_main_v90` at an index. -/
theorem r90 (b : Fin 2) (c : Fin 128) (g : Fin 2) (j : Fin 8) :
    A_main_v90 (F := Ideal) a0 a1 a2 a3 a4 a5 (ix4 b c g j) = Ideal.exp (A_main_v89 (F := Ideal) a0 a1 a2 a3 a4 a5 (ix4 b c g j)) := by
  unfold A_main_v90
  generalize A_main_v89 (F := Ideal) a0 a1 a2 a3 a4 a5 = v89
  pointwise

/-- `A_main_v94` at an index. -/
theorem r94 (b : Fin 2) (c : Fin 128) (g : Fin 2) (j : Fin 8) (l : Fin 128) :
    A_main_v94 (F := Ideal) a0 a1 a2 a3 a4 a5 (ix5 b c g j l) = Ideal.exp (A_main_v56 (F := Ideal) a0 a1 a2 a3 a4 a5 (ix5 b c g j l)) := by
  unfold A_main_v94
  generalize A_main_v56 (F := Ideal) a0 a1 a2 a3 a4 a5 = v56
  pointwise

/-- `A_main_v95` at an index. -/
theorem r95 (b : Fin 2) (c : Fin 128) (g : Fin 2) (j : Fin 8) (l : Fin 128) :
    A_main_v95 (F := Ideal) a0 a1 a2 a3 a4 a5 (ix5 b c l g j) = A_main_v94 (F := Ideal) a0 a1 a2 a3 a4 a5 (ix5 b c g j l) := by
  unfold A_main_v95
  generalize A_main_v94 (F := Ideal) a0 a1 a2 a3 a4 a5 = v94
  pointwise

/-- `A_main_v96` at an index. -/
theorem r96 (g : Fin 2) (j : Fin 8) :
    A_main_v96 (F := Ideal) a0 a1 a2 a3 a4 a5 (ix2 g j) = a5 (ix1 (hd g j)) := by
  unfold A_main_v96
  unfold hd
  pointwise
  exact congrArg (fun i => a5 (ix1 i)) (Fin.ext (by simp; omega))

/-- `A_main_v97` at an index. -/
theorem r97 (g : Fin 2) (j : Fin 8) :
    A_main_v97 (F := Ideal) a0 a1 a2 a3 a4 a5 (ix3 g j 0) = A_main_v96 (F := Ideal) a0 a1 a2 a3 a4 a5 (ix2 g j) := by
  unfold A_main_v97
  generalize A_main_v96 (F := Ideal) a0 a1 a2 a3 a4 a5 = v96
  pointwise

/-- `A_main_v98` at an index. -/
theorem r98 (g : Fin 2) (j : Fin 8) :
    A_main_v98 (F := Ideal) a0 a1 a2 a3 a4 a5 (ix6 0 0 0 g j 0) = A_main_v97 (F := Ideal) a0 a1 a2 a3 a4 a5 (ix3 g j 0) := by
  unfold A_main_v98
  generalize A_main_v97 (F := Ideal) a0 a1 a2 a3 a4 a5 = v97
  pointwise

/-- `A_main_v99` at an index. -/
theorem r99 (b : Fin 2) (c : Fin 128) (g : Fin 2) (j : Fin 8) (l : Fin 128) (p : Fin 64) :
    A_main_v99 (F := Ideal) a0 a1 a2 a3 a4 a5 (ix6 b c l g j p) = A_main_v98 (F := Ideal) a0 a1 a2 a3 a4 a5 (ix6 0 0 0 g j 0) := by
  unfold A_main_v99
  generalize A_main_v98 (F := Ideal) a0 a1 a2 a3 a4 a5 = v98
  pointwise

/-- `A_main_v100` at an index. -/
theorem r100 (b : Fin 2) (c : Fin 128) (g : Fin 2) (j : Fin 8) (l : Fin 128) (p : Fin 64) :
    A_main_v100 (F := Ideal) a0 a1 a2 a3 a4 a5 (ix6 b c l g j p) = A_main_v41 (F := Ideal) a0 a1 a2 a3 a4 a5 (ix6 b c l g j p) * A_main_v99 (F := Ideal) a0 a1 a2 a3 a4 a5 (ix6 b c l g j p) := by
  unfold A_main_v100
  generalize A_main_v41 (F := Ideal) a0 a1 a2 a3 a4 a5 = v41
  generalize A_main_v99 (F := Ideal) a0 a1 a2 a3 a4 a5 = v99
  exact mulf_apply _ _ _

/-- `A_main_v101` at an index. -/
theorem r101 (b : Fin 2) (c : Fin 128) (g : Fin 2) (j : Fin 8) (p : Fin 64) (n : Fin 128) :
    A_main_v101 (F := Ideal) a0 a1 a2 a3 a4 a5 (ix6 c b g j p n) = A_main_v87 (F := Ideal) a0 a1 a2 a3 a4 a5 (ix6 b c g j p n) := by
  unfold A_main_v101
  generalize A_main_v87 (F := Ideal) a0 a1 a2 a3 a4 a5 = v87
  pointwise

/-- `A_main_v102` at an index. -/
theorem r102 (b : Fin 2) (c : Fin 128) (g : Fin 2) (j : Fin 8) :
    A_main_v102 (F := Ideal) a0 a1 a2 a3 a4 a5 (ix4 c b g j) = A_main_v90 (F := Ideal) a0 a1 a2 a3 a4 a5 (ix4 b c g j) := by
  unfold A_main_v102
  generalize A_main_v90 (F := Ideal) a0 a1 a2 a3 a4 a5 = v90
  pointwise

/-- `A_main_v103` at an index. -/
theorem r103 (b : Fin 2) (c : Fin 128) (g : Fin 2) (l : Fin 128) (n : Fin 128) :
    A_main_v103 (F := Ideal) a0 a1 a2 a3 a4 a5 (ix5 c b l g n) = A_main_v43 (F := Ideal) a0 a1 a2 a3 a4 a5 (ix5 b c l g n) := by
  unfold A_main_v103
  generalize A_main_v43 (F := Ideal) a0 a1 a2 a3 a4 a5 = v43
  pointwise

/-- `A_main_v104` at an index. -/
theorem r104 (b : Fin 2) (c : Fin 128) (g : Fin 2) (j : Fin 8) (l : Fin 128) :
    A_main_v104 (F := Ideal) a0 a1 a2 a3 a4 a5 (ix5 c b l g j) = A_main_v95 (F := Ideal) a0 a1 a2 a3 a4 a5 (ix5 b c l g j) := by
  unfold A_main_v104
  generalize A_main_v95 (F := Ideal) a0 a1 a2 a3 a4 a5 = v95
  pointwise

/-- `A_main_v105` at an index. -/
theorem r105 (b : Fin 2) (c : Fin 128) (g : Fin 2) (j : Fin 8) (l : Fin 128) (p : Fin 64) :
    A_main_v105 (F := Ideal) a0 a1 a2 a3 a4 a5 (ix6 c b l g j p) = A_main_v78 (F := Ideal) a0 a1 a2 a3 a4 a5 (ix6 b c l g j p) := by
  unfold A_main_v105
  generalize A_main_v78 (F := Ideal) a0 a1 a2 a3 a4 a5 = v78
  pointwise

/-- `A_main_v106` at an index. -/
theorem r106 (b : Fin 2) (c : Fin 128) (g : Fin 2) (j : Fin 8) (l : Fin 128) (p : Fin 64) :
    A_main_v106 (F := Ideal) a0 a1 a2 a3 a4 a5 (ix6 c b l g j p) = A_main_v100 (F := Ideal) a0 a1 a2 a3 a4 a5 (ix6 b c l g j p) := by
  unfold A_main_v106
  generalize A_main_v100 (F := Ideal) a0 a1 a2 a3 a4 a5 = v100
  pointwise

end Cert.Ssd.Ref

end
-- ==== Proof.RefChunk.lean ====
/-
  What the reference's loop over the chunks reads: for each chunk what it adds to the state, its decay, its output projection, and the
  two parts of its output which do not need the state.
-/
module

public import proofs.«01_k».proof.Proof.RefConv
public import proofs.«01_k».proof.Proof.RefDt
public import proofs.«01_k».proof.Proof.RefOps

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The chunk's own rows: the masked, decayed scores. -/
theorem scores_eq (b : Fin 2) (c : Fin 128) (g : Fin 2) (j : Fin 8) (l s : Fin 128) :
    A_main_v76 (F := Ideal) a0 a1 a2 a3 a4 a5 (ix6 b c g j l s) = (∑ n : Fin 128, cm X (tc b c) l (hd g j) n * bm X (tc b c) s (hd g j) n)
      * Ideal.exp (if s ≤ l then acs X (tc b c) l (hd g j) - acs X (tc b c) s (hd g j) else ⊥) := by
  rw [r76, r75, r74, r73, r72, r71, r70, r68, r66, r69, r67, acs_eq (a6 := a6), acs_eq (a6 := a6)]
  simp only [b_eq (a6 := a6) (j := j), c_eq (a6 := a6) (j := j)]

/-- The heads' inputs times the step sizes. -/
theorem xdt_eq (b : Fin 2) (c l : Fin 128) (g : Fin 2) (j : Fin 8) (p : Fin 64) :
    A_main_v59 (F := Ideal) a0 a1 a2 a3 a4 a5 (ix6 b c l g j p) = xh X (tc b c) l (hd g j) p * dt X (tc b c) l (hd g j) := by
  rw [r59, r58, r57, x_eq (a6 := a6), dt_eq (a6 := a6)]

/-- The contribution of the chunk's own rows. -/
theorem yDiag_eq (b : Fin 2) (c l : Fin 128) (g : Fin 2) (j : Fin 8) (p : Fin 64) :
    A_main_v105 (F := Ideal) a0 a1 a2 a3 a4 a5 (ix6 c b l g j p) = yDiag X (tc b c) l (hd g j) p := by
  rw [r105, r78, r77]
  refine Finset.sum_congr rfl fun s _ => ?_
  rw [xdt_eq (a6 := a6), scores_eq (a6 := a6)]
  exact mul_comm _ _

/-- What the chunk adds to the state. -/
theorem dState_eq (b : Fin 2) (c : Fin 128) (g : Fin 2) (j : Fin 8) (p : Fin 64) (n : Fin 128) :
    A_main_v101 (F := Ideal) a0 a1 a2 a3 a4 a5 (ix6 c b g j p n) = dState X (tc b c) (hd g j) n p := by
  rw [r101, r87]
  refine Finset.sum_congr rfl fun l _ => ?_
  rw [r86, xdt_eq (a6 := a6), r85, r84, r83, r82, r81, r80, r79, acs_eq (a6 := a6), acs_eq (a6 := a6), b_eq (a6 := a6) (j := j)]
  exact mul_comm _ _

/-- The decay over the whole chunk. -/
theorem decay_eq (b : Fin 2) (c : Fin 128) (g : Fin 2) (j : Fin 8) :
    A_main_v102 (F := Ideal) a0 a1 a2 a3 a4 a5 (ix4 c b g j) = Ideal.exp (acs X (tc b c) 127 (hd g j)) := by
  rw [r102, r90, r89, r88, acs_eq (a6 := a6)]

/-- The output projection, chunk first. -/
theorem cmc_eq (b : Fin 2) (c l : Fin 128) (g : Fin 2) (j : Fin 8) (n : Fin 128) :
    A_main_v103 (F := Ideal) a0 a1 a2 a3 a4 a5 (ix5 c b l g n) = cm X (tc b c) l (hd g j) n := by
  rw [r103, c_eq (a6 := a6) (j := j)]

/-- The decay up to a row, chunk first. -/
theorem eac_eq (b : Fin 2) (c l : Fin 128) (g : Fin 2) (j : Fin 8) :
    A_main_v104 (F := Ideal) a0 a1 a2 a3 a4 a5 (ix5 c b l g j) = Ideal.exp (acs X (tc b c) l (hd g j)) := by
  rw [r104, r95, r94, acs_eq (a6 := a6)]

/-- The skip term, chunk first. -/
theorem skip_eq (b : Fin 2) (c l : Fin 128) (g : Fin 2) (j : Fin 8) (p : Fin 64) :
    A_main_v106 (F := Ideal) a0 a1 a2 a3 a4 a5 (ix6 c b l g j p) = xh X (tc b c) l (hd g j) p * (X).ds (hd g j) := by
  rw [r106, r100, r99, r98, r97, r96, x_eq (a6 := a6)]
  rfl

end Cert.Ssd.Ref

end
-- ==== Proof.RefTrip.lean ====
/-
  One trip of the reference's loop over the chunks, read at an index: the slices it takes, the state it leaves, and the output it writes
  at its place of the stacked result.
-/
module

public import proofs.«01_k».proof.Proof.RefSteps
public import proofs.«01_k».proof.Proof.Spec
public import Idealize.ShloMosaic.Lib.WordCmp

@[expose] public section

set_option maxRecDepth 16384

noncomputable section

namespace Cert.Ssd.Ref

open Idealize.ShloMosaic Idealize.ShloMosaic.WordCmp Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- Trip `k` reads chunk `k`'s addition to the state. -/
theorem slice0 (k : Fin 128) (s : State Ideal) (b : Fin 2) (g : Fin 2) (j : Fin 8) (p : Fin 64) (n : Fin 128) : b6 k.val s (ix5 b g j p n) = s.main_v108_0 (ix6 k b g j p n) := by
  have h : b5 k.val s (ix6 0 b g j p n) = s.main_v108_0 (ix6 k b g j p n) := by
    have hk : S128x2x2x8x64x128.Slices ![k.val, 0, 0, 0, 0, 0] S1x2x2x8x64x128 := ⟨rfl, fun a => by
      fin_cases a <;> first | exact k.isLt | exact Nat.le_refl _⟩
    unfold b5
    refine (congrFun (dynamicSlice_eq_extract (s := S128x2x2x8x64x128) S1x2x2x8x64x128 _ _ _ ![k.val, 0, 0, 0, 0, 0] hk fun a => by
      fin_cases a <;> first | exact toInt_ofNat_of_lt (show k.val < 2 ^ 31 by omega) | rfl) _).trans ?_
    unfold extractStridedSlice
    refine congrArg s.main_v108_0 (funext fun a => Fin.ext ?_)
    fin_cases a <;> first | exact Nat.add_zero _ | exact Nat.zero_add _
  rw [← h]
  unfold b6
  generalize b5 k.val s = w
  pointwise

/-- Trip `k` reads chunk `k`'s decay. -/
theorem slice1 (k : Fin 128) (s : State Ideal) (b : Fin 2) (g : Fin 2) (j : Fin 8) : b11 k.val s (ix3 b g j) = s.main_v108_1 (ix4 k b g j) := by
  have h : b10 k.val s (ix4 0 b g j) = s.main_v108_1 (ix4 k b g j) := by
    have hk : S128x2x2x8.Slices ![k.val, 0, 0, 0] S1x2x2x8 := ⟨rfl, fun a => by
      fin_cases a <;> first | exact k.isLt | exact Nat.le_refl _⟩
    unfold b10
    refine (congrFun (dynamicSlice_eq_extract (s := S128x2x2x8) S1x2x2x8 _ _ _ ![k.val, 0, 0, 0] hk fun a => by
      fin_cases a <;> first | exact toInt_ofNat_of_lt (show k.val < 2 ^ 31 by omega) | rfl) _).trans ?_
    unfold extractStridedSlice
    refine congrArg s.main_v108_1 (funext fun a => Fin.ext ?_)
    fin_cases a <;> first | exact Nat.add_zero _ | exact Nat.zero_add _
  rw [← h]
  unfold b11
  generalize b10 k.val s = w
  pointwise

/-- Trip `k` reads chunk `k`'s output projection. -/
theorem slice2 (k : Fin 128) (s : State Ideal) (b : Fin 2) (l : Fin 128) (g : Fin 2) (n : Fin 128) : b17 k.val s (ix4 b l g n) = s.main_v108_2 (ix5 k b l g n) := by
  have h : b16 k.val s (ix5 0 b l g n) = s.main_v108_2 (ix5 k b l g n) := by
    have hk : S128x2x128x2x128.Slices ![k.val, 0, 0, 0, 0] S1x2x128x2x128 := ⟨rfl, fun a => by
      fin_cases a <;> first | exact k.isLt | exact Nat.le_refl _⟩
    unfold b16
    refine (congrFun (dynamicSlice_eq_extract (s := S128x2x128x2x128) S1x2x128x2x128 _ _ _ ![k.val, 0, 0, 0, 0] hk fun a => by
      fin_cases a <;> first | exact toInt_ofNat_of_lt (show k.val < 2 ^ 31 by omega) | rfl) _).trans ?_
    unfold extractStridedSlice
    refine congrArg s.main_v108_2 (funext fun a => Fin.ext ?_)
    fin_cases a <;> first | exact Nat.add_zero _ | exact Nat.zero_add _
  rw [← h]
  unfold b17
  generalize b16 k.val s = w
  pointwise

/-- Trip `k` reads chunk `k`'s decay up to each row. -/
theorem slice3 (k : Fin 128) (s : State Ideal) (b : Fin 2) (l : Fin 128) (g : Fin 2) (j : Fin 8) : b23 k.val s (ix4 b l g j) = s.main_v108_3 (ix5 k b l g j) := by
  have h : b22 k.val s (ix5 0 b l g j) = s.main_v108_3 (ix5 k b l g j) := by
    have hk : S128x2x128x2x8.Slices ![k.val, 0, 0, 0, 0] S1x2x128x2x8 := ⟨rfl, fun a => by
      fin_cases a <;> first | exact k.isLt | exact Nat.le_refl _⟩
    unfold b22
    refine (congrFun (dynamicSlice_eq_extract (s := S128x2x128x2x8) S1x2x128x2x8 _ _ _ ![k.val, 0, 0, 0, 0] hk fun a => by
      fin_cases a <;> first | exact toInt_ofNat_of_lt (show k.val < 2 ^ 31 by omega) | rfl) _).trans ?_
    unfold extractStridedSlice
    refine congrArg s.main_v108_3 (funext fun a => Fin.ext ?_)
    fin_cases a <;> first | exact Nat.add_zero _ | exact Nat.zero_add _
  rw [← h]
  unfold b23
  generalize b22 k.val s = w
  pointwise

/-- Trip `k` reads the contribution of chunk `k`'s own rows. -/
theorem slice4 (k : Fin 128) (s : State Ideal) (b : Fin 2) (l : Fin 128) (g : Fin 2) (j : Fin 8) (p : Fin 64) : b30 k.val s (ix5 b l g j p) = s.main_v108_4 (ix6 k b l g j p) := by
  have h : b29 k.val s (ix6 0 b l g j p) = s.main_v108_4 (ix6 k b l g j p) := by
    have hk : S128x2x128x2x8x64.Slices ![k.val, 0, 0, 0, 0, 0] S1x2x128x2x8x64 := ⟨rfl, fun a => by
      fin_cases a <;> first | exact k.isLt | exact Nat.le_refl _⟩
    unfold b29
    refine (congrFun (dynamicSlice_eq_extract (s := S128x2x128x2x8x64) S1x2x128x2x8x64 _ _ _ ![k.val, 0, 0, 0, 0, 0] hk fun a => by
      fin_cases a <;> first | exact toInt_ofNat_of_lt (show k.val < 2 ^ 31 by omega) | rfl) _).trans ?_
    unfold extractStridedSlice
    refine congrArg s.main_v108_4 (funext fun a => Fin.ext ?_)
    fin_cases a <;> first | exact Nat.add_zero _ | exact Nat.zero_add _
  rw [← h]
  unfold b30
  generalize b29 k.val s = w
  pointwise

/-- Trip `k` reads chunk `k`'s skip term. -/
theorem slice5 (k : Fin 128) (s : State Ideal) (b : Fin 2) (l : Fin 128) (g : Fin 2) (j : Fin 8) (p : Fin 64) : b37 k.val s (ix5 b l g j p) = s.main_v108_5 (ix6 k b l g j p) := by
  have h : b36 k.val s (ix6 0 b l g j p) = s.main_v108_5 (ix6 k b l g j p) := by
    have hk : S128x2x128x2x8x64.Slices ![k.val, 0, 0, 0, 0, 0] S1x2x128x2x8x64 := ⟨rfl, fun a => by
      fin_cases a <;> first | exact k.isLt | exact Nat.le_refl _⟩
    unfold b36
    refine (congrFun (dynamicSlice_eq_extract (s := S128x2x128x2x8x64) S1x2x128x2x8x64 _ _ _ ![k.val, 0, 0, 0, 0, 0] hk fun a => by
      fin_cases a <;> first | exact toInt_ofNat_of_lt (show k.val < 2 ^ 31 by omega) | rfl) _).trans ?_
    unfold extractStridedSlice
    refine congrArg s.main_v108_5 (funext fun a => Fin.ext ?_)
    fin_cases a <;> first | exact Nat.add_zero _ | exact Nat.zero_add _
  rw [← h]
  unfold b37
  generalize b36 k.val s = w
  pointwise

/-- A trip's product of the output projection and the state. -/
theorem off_eq (k : ℕ) (s : State Ideal) (b : Fin 2) (l : Fin 128) (g : Fin 2) (j : Fin 8) (p : Fin 64) :
    b39 k s (ix5 b l g j p) = ∑ n : Fin 128, s.main_v108_7 (ix5 b g j p n) * b17 k s (ix4 b l g n) := by
  have h : b38 k s (ix5 b g j p l) = ∑ n : Fin 128, s.main_v108_7 (ix5 b g j p n) * b17 k s (ix4 b l g n) := by
    unfold b38
    generalize b17 k s = w
    generalize s.main_v108_7 = v
    pointwise
  rw [← h]
  unfold b39
  generalize b38 k s = w
  pointwise

/-- A trip's decay, spread over the columns. -/
theorem dec_eq (k : ℕ) (s : State Ideal) (b : Fin 2) (l : Fin 128) (g : Fin 2) (j : Fin 8) (p : Fin 64) :
    b41 k s (ix5 b l g j p) = b23 k s (ix4 b l g j) := by
  unfold b41 b40
  generalize b23 k s = w
  pointwise

/-- A trip's chunk decay, spread over the state. -/
theorem cdec_eq (k : ℕ) (s : State Ideal) (b g : Fin 2) (j : Fin 8) (p : Fin 64) (n : Fin 128) :
    b44 k s (ix5 b g j p n) = b11 k s (ix3 b g j) := by
  unfold b44 b43
  generalize b11 k s = w
  pointwise

/-- The state a trip leaves. -/
theorem state_eq (k : Fin 128) (s : State Ideal) (b g : Fin 2) (j : Fin 8) (p : Fin 64) (n : Fin 128) :
    b46 k.val s (ix5 b g j p n)
      = ((s.main_v108_7 (ix5 b g j p n) : EReal) * (s.main_v108_1 (ix4 k b g j) : EReal) : EReal) + s.main_v108_0 (ix6 k b g j p n) := by
  have h : b46 k.val s (ix5 b g j p n)
      = ((s.main_v108_7 (ix5 b g j p n) : EReal) * (b44 k.val s (ix5 b g j p n) : EReal) : EReal) + b6 k.val s (ix5 b g j p n) := rfl
  rw [h, cdec_eq, slice0, slice1]

/-- The output a trip computes. -/
theorem y_eq (k : Fin 128) (s : State Ideal) (b : Fin 2) (l : Fin 128) (g : Fin 2) (j : Fin 8) (p : Fin 64) :
    b48 k.val s (ix5 b l g j p) = (s.main_v108_4 (ix6 k b l g j p) : EReal)
      + (∑ n : Fin 128, (s.main_v108_7 (ix5 b g j p n) : EReal) * (s.main_v108_2 (ix5 k b l g n) : EReal)) * (s.main_v108_3 (ix5 k b l g j) : EReal)
      + s.main_v108_5 (ix6 k b l g j p) := by
  have h : b48 k.val s (ix5 b l g j p) = (b30 k.val s (ix5 b l g j p) : EReal)
      + ((b39 k.val s (ix5 b l g j p) : EReal) * (b41 k.val s (ix5 b l g j p) : EReal) : EReal) + b37 k.val s (ix5 b l g j p) := rfl
  rw [h, off_eq, dec_eq, slice3, slice4, slice5]
  simp only [slice2]

/-- A trip writes its output at its own place of the stack, and leaves the other places. -/
theorem stack_eq (k k' : Fin 128) (s : State Ideal) (b : Fin 2) (l : Fin 128) (g : Fin 2) (j : Fin 8) (p : Fin 64) :
    b55 k.val s (ix6 k' b l g j p) = if k' = k then b48 k.val s (ix5 b l g j p) else s.main_v108_8 (ix6 k' b l g j p) := by
  have h49 : b49 k.val s (ix6 0 b l g j p) = b48 k.val s (ix5 b l g j p) := by
    unfold b49
    generalize b48 k.val s = w
    pointwise
  unfold b55
  have hk : S128x2x128x2x8x64.Slices ![k.val, 0, 0, 0, 0, 0] S1x2x128x2x8x64 := ⟨rfl, fun a => by
    fin_cases a <;> first | exact k.isLt | exact Nat.le_refl _⟩
  refine (congrFun (dynamicUpdateSlice_eq_update (s := S128x2x128x2x8x64) (u := S1x2x128x2x8x64) _ _ _ _ ![k.val, 0, 0, 0, 0, 0] hk fun a => by
    fin_cases a <;> first | exact toInt_ofNat_of_lt (show k.val < 2 ^ 31 by omega) | rfl) _).trans ?_
  unfold updateSlice
  by_cases h : k' = k
  · subst h
    rw [dif_pos, if_pos rfl, ← h49]
    · refine congrArg _ (funext fun a => Fin.ext ?_)
      fin_cases a <;> first | exact Nat.sub_self _ | exact Nat.sub_zero _
    · intro a
      fin_cases a
      · exact ⟨le_refl _, Nat.lt_succ_self _⟩
      · exact ⟨Nat.zero_le _, by simpa using b.isLt⟩
      · exact ⟨Nat.zero_le _, by simpa using l.isLt⟩
      · exact ⟨Nat.zero_le _, by simpa using g.isLt⟩
      · exact ⟨Nat.zero_le _, by simpa using j.isLt⟩
      · exact ⟨Nat.zero_le _, by simpa using p.isLt⟩
  · rw [dif_neg, if_neg h]
    intro h'
    have h0 := h' 0
    have h1 : k.val ≤ k'.val := h0.1
    have h2 : k'.val < k.val + 1 := h0.2
    exact h (Fin.ext (by omega))

end Cert.Ssd.Ref

end
-- ==== Proof.RefLoop.lean ====
/-
  The reference's loop over the chunks: before trip `n` it holds the recurrence's state before chunk `n` and the outputs of the chunks
  before, so that after the last trip it holds every chunk's output.
-/
module

public import proofs.«01_k».proof.Proof.RefChunk
public import proofs.«01_k».proof.Proof.RefTrip

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The sequence of states the loop goes through. -/
def seq (s0 : State Ideal) : ℕ → State Ideal
  | 0 => s0
  | n + 1 => step n (seq s0 n)

/-- What holds before trip `n`: the loop's constants are what they were, the state is the recurrence's before chunk `n`, and the
    stack holds the outputs of the chunks before. -/
structure Inv (n : ℕ) (s : State Ideal) : Prop where
  c0 : s.main_v108_0 = A_main_v101 (F := Ideal) a0 a1 a2 a3 a4 a5
  c1 : s.main_v108_1 = A_main_v102 (F := Ideal) a0 a1 a2 a3 a4 a5
  c2 : s.main_v108_2 = A_main_v103 (F := Ideal) a0 a1 a2 a3 a4 a5
  c3 : s.main_v108_3 = A_main_v104 (F := Ideal) a0 a1 a2 a3 a4 a5
  c4 : s.main_v108_4 = A_main_v105 (F := Ideal) a0 a1 a2 a3 a4 a5
  c5 : s.main_v108_5 = A_main_v106 (F := Ideal) a0 a1 a2 a3 a4 a5
  hst : n < 128 → ∀ (b g : Fin 2) (j : Fin 8) (p : Fin 64) (i : Fin 128),
    s.main_v108_7 (ix5 b g j p i) = st X (128 * b.val + n) (hd g j) i p
  hy : ∀ k : Fin 128, k.val < n → ∀ (b : Fin 2) (l : Fin 128) (g : Fin 2) (j : Fin 8) (p : Fin 64),
    s.main_v108_8 (ix6 k b l g j p) = yOf X (tc b k) (st X (tc b k).val) l (hd g j) p

/-- The state before the first chunk of a sequence is zero. -/
theorem st_zero (Y : Inp) (b : Fin 2) : st Y (128 * b.val) = fun _ _ _ => 0 := by
  fin_cases b
  · rfl
  · show st Y (127 + 1) = _
    rw [st, if_pos (by decide)]

/-- The state before a later chunk is what the chunk before leaves. -/
theorem st_succ (Y : Inp) (b : Fin 2) (k : Fin 128) (h : k.val + 1 < 128) :
    st Y (128 * b.val + (k.val + 1)) = stNext Y (tc b k) (st Y (tc b k).val) := by
  show st Y ((128 * b.val + k.val) + 1) = _
  rw [st, if_neg (by omega)]
  have : (⟨(128 * b.val + k.val) % 256, Nat.mod_lt _ (by decide)⟩ : Fin 256) = tc b k := Fin.ext (by simp only [tc]; omega)
  rw [this]
  rfl

/-- It holds before the first trip. -/
theorem inv_zero : Inv a0 a1 a2 a3 a4 a5 a6 0 (init a0 a1 a2 a3 a4 a5) where
  c0 := rfl
  c1 := rfl
  c2 := rfl
  c3 := rfl
  c4 := rfl
  c5 := rfl
  hst _ b g j p i := by
    rw [Nat.add_zero, st_zero]
    show K_main_v93 (F := Ideal) (ix5 b g j p i) = 0
    pointwise [K_main_v93, K_main_cst_1]
  hy k h := absurd h (Nat.not_lt_zero _)

/-- A trip keeps it. -/
theorem inv_succ (k : Fin 128) (s : State Ideal) (h : Inv a0 a1 a2 a3 a4 a5 a6 k.val s) : Inv a0 a1 a2 a3 a4 a5 a6 (k.val + 1) (step k.val s) where
  c0 := h.c0
  c1 := h.c1
  c2 := h.c2
  c3 := h.c3
  c4 := h.c4
  c5 := h.c5
  hst hk b g j p i := by
    rw [st_succ _ b k hk]
    show b46 k.val s (ix5 b g j p i) = _
    rw [state_eq, h.hst k.isLt, h.c0, h.c1, decay_eq (a6 := a6), dState_eq (a6 := a6)]
    rfl
  hy k' hk' b l g j p := by
    show b55 k.val s (ix6 k' b l g j p) = _
    rw [stack_eq]
    by_cases hkk : k' = k
    · subst hkk
      rw [if_pos rfl, y_eq, h.c2, h.c3, h.c4, h.c5, yDiag_eq (a6 := a6), eac_eq (a6 := a6), skip_eq (a6 := a6)]
      unfold yOf
      refine congrArg (fun z : EReal => yDiag X (tc b k') l (hd g j) p + z * _ + _) (Finset.sum_congr rfl fun n _ => ?_)
      rw [h.hst k'.isLt, cmc_eq (a6 := a6) (j := j)]
      exact mul_comm _ _
    · rw [if_neg hkk]
      have : k'.val ≠ k.val := fun e => hkk (Fin.ext e)
      exact h.hy k' (by omega) b l g j p

/-- It holds before every trip, and after the last. -/
theorem inv_all : ∀ n : ℕ, n ≤ 128 → Inv a0 a1 a2 a3 a4 a5 a6 n (seq (init a0 a1 a2 a3 a4 a5) n)
  | 0, _ => inv_zero a0 a1 a2 a3 a4 a5 a6
  | n + 1, h => inv_succ a0 a1 a2 a3 a4 a5 a6 ⟨n, by omega⟩ _ (inv_all n (by omega))

/-- After the loop the stack holds every chunk's output. -/
theorem stack_all (k : Fin 128) (b : Fin 2) (l : Fin 128) (g : Fin 2) (j : Fin 8) (p : Fin 64) :
    (seq (init a0 a1 a2 a3 a4 a5) 128).main_v108_8 (ix6 k b l g j p) = yOf X (tc b k) (st X (tc b k).val) l (hd g j) p :=
  (inv_all a0 a1 a2 a3 a4 a5 a6 128 (le_refl _)).hy k k.isLt b l g j p

end Cert.Ssd.Ref

end
-- ==== Proof.RefTail.lean ====
/-
  What follows the reference's loop: the gate and the normalisation over groups of 512 columns.
-/
module

public import proofs.«01_k».proof.Proof.RefSteps
public import proofs.«01_k».proof.Proof.Spec

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The outputs gated. -/
def gateArr (w : FVec Ideal S128x2x128x2x8x64 .f32) (h : FVec Ideal S32768x6144 .f32) : FVec Ideal S2x16384x1024 .f32 :=
  mulf (shapeCast _ (transpose S2x128x128x2x8x64 [1, 0, 2, 3, 4, 5] w transposes_S128x2x128x2x8x64_S2x128x128x2x8x64_1_0_2_3_4_5) shapeCasts_S2x128x128x2x8x64_S2x16384x1024) (mulf (shapeCast _ (extractStridedSlice S32768x1024 ![0, 0] (h) slices_S32768x6144_S32768x1024_0_0) shapeCasts_S32768x1024_S2x16384x1024) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (shapeCast _ (extractStridedSlice S32768x1024 ![0, 0] (h) slices_S32768x6144_S32768x1024_0_0) shapeCasts_S32768x1024_S2x16384x1024))))))

/-- The gated outputs normalised. -/
def normArr (y : FVec Ideal S2x16384x1024 .f32) (ng : FVec Ideal S1024 .f32) : FVec Ideal S32768x1024 .bf16 :=
  truncf .bf16 (shapeCast _ (mulf (shapeCast _ (mulf (shapeCast _ y shapeCasts_S2x16384x1024_S2x16384x2x512) (broadcastInDim S2x16384x2x512 ![0, 1, 2, 3] bcast_S2x16384x2x1_S2x16384x2x512_0_1_2_3 (Host.rsqrt (addf (Host.divf (broadcastInDim S2x16384x2x1 ![0, 1, 2] bcast_S2x16384x2_S2x16384x2x1_0_1_2 (Host.reduceAdd (mulf (shapeCast _ y shapeCasts_S2x16384x1024_S2x16384x2x512) (shapeCast _ y shapeCasts_S2x16384x1024_S2x16384x2x512)) (constant S_ .f32 0x00000000#32) reducesTo_S2x16384x2x512_S2x16384x2_d3 h_S_)) (broadcastInDim S2x16384x2x1 ![] bcast_S_S2x16384x2x1 (constant S_ .f32 0x44000000#32))) (broadcastInDim S2x16384x2x1 ![] bcast_S_S2x16384x2x1 (constant S_ .f32 0x3727C5AC#32)))))) shapeCasts_S2x16384x2x512_S2x16384x1024) (broadcastInDim S2x16384x1024 ![0, 1, 2] bcast_S1x1x1024_S2x16384x1024_0_1_2 (broadcastInDim S1x1x1024 ![2] bcast_S1024_S1x1x1024_2 (ng)))) shapeCasts_S2x16384x1024_S32768x1024) bitsLt_bf16_f32

/-- The result is the normalised gated outputs. -/
theorem result_eq (s : State Ideal) : R_main_v131 s a0 a6 = normArr (gateArr s.main_v108_8 a0) a6 := rfl

/-- The gated outputs at an index. -/
theorem gateArr_eq (w : FVec Ideal S128x2x128x2x8x64 .f32) (b : Fin 2) (c l : Fin 128) (q : Fin 1024) :
    gateArr w a0 (ix3 b (row c l) q) = w (ix6 c b l ⟨q.val / 512, by omega⟩ ⟨q.val / 64 % 8, by omega⟩ ⟨q.val % 64, by omega⟩)
      * silu (a0 (ix2 ⟨128 * (128 * b.val + c.val) + l.val, by omega⟩ ⟨q.val, by omega⟩)) := by
  unfold row silu
  pointwise [gateArr]
  exact congrArg (fun r => (w (ix6 c b l ⟨q.val / 512, by omega⟩ ⟨q.val / 64 % 8, by omega⟩ ⟨q.val % 64, by omega⟩) : EReal)
    * ((a0 (ix2 r ⟨q.val, by omega⟩) : EReal) * Ideal.div 1 (1 + Ideal.exp (-(a0 (ix2 r ⟨q.val, by omega⟩) : EReal)))))
    (Fin.ext (by show b.val * 16384 + (128 * c.val + l.val) = 128 * (128 * b.val + c.val) + l.val; omega))

/-- The normalised outputs at an index. -/
theorem normArr_eq (y : FVec Ideal S2x16384x1024 .f32) (b : Fin 2) (c l : Fin 128) (q : Fin 1024) :
    normArr y a6 (ix2 ⟨128 * (128 * b.val + c.val) + l.val, by omega⟩ q) = y (ix3 b (row c l) q)
      * Ideal.rsqrt (Ideal.div (∑ j : Fin 512, y (ix3 b (row c l) ⟨512 * (q.val / 512) + j.val, by omega⟩)
      * y (ix3 b (row c l) ⟨512 * (q.val / 512) + j.val, by omega⟩)) (Ideal.ofBits FTy.f32 0x44000000#32) + Ideal.ofBits FTy.f32 0x3727C5AC#32) * a6 (ix1 q) := by
  pointwise [normArr]
  have e : (⟨(128 * (128 * b.val + c.val) + l.val) % 16384, by omega⟩ : Fin 16384) = row c l :=
    Fin.ext (by show (128 * (128 * b.val + c.val) + l.val) % 16384 = 128 * c.val + l.val; omega)
  have e' : ∀ x : Fin 512, (⟨q.val / 512 * 512 + x.val, by omega⟩ : Fin 1024) = ⟨512 * (q.val / 512) + x.val, by omega⟩ :=
    fun x => Fin.ext (by show q.val / 512 * 512 + x.val = 512 * (q.val / 512) + x.val; omega)
  refine (congrArg (fun r => (y (ix3 b r q) : EReal) * Ideal.rsqrt (Ideal.div (∑ x : Fin 512, (y (ix3 b r ⟨q.val / 512 * 512 + x.val, by omega⟩) : EReal)
    * y (ix3 b r ⟨q.val / 512 * 512 + x.val, by omega⟩)) (Ideal.ofBits FTy.f32 0x44000000#32) + Ideal.ofBits FTy.f32 0x3727C5AC#32) * (a6 (ix1 q) : EReal)) e).trans ?_
  simp only [e']

end Cert.Ssd.Ref

end
-- ==== Proof.RefResult.lean ====
/-
  The reference's result: row `l` of chunk `c` of sequence `b` is the recurrence's output.
-/
module

public import proofs.«01_k».proof.Proof.RefLoop
public import proofs.«01_k».proof.Proof.RefTail

@[expose] public section

set_option maxRecDepth 16384

noncomputable section

namespace Cert.Ssd.Ref

open Idealize.ShloMosaic Cert.ReferenceIdeal Cert.ReferenceIdeal.Gen Cert.ReferenceIdeal.Step

variable (a0 : FVec Ideal S32768x6144 .f32) (a1 : FVec Ideal S4x1536 .f32) (a2 : FVec Ideal S1536 .f32) (a3 a4 a5 : FVec Ideal S16 .f32)
  (a6 : FVec Ideal S1024 .f32)

local notation "X" => inp a0 a1 a2 a3 a4 a5 a6

/-- The gated outputs of every chunk. -/
theorem gate_all (b : Fin 2) (c l : Fin 128) (q : Fin 1024) :
    gateArr (seq (init a0 a1 a2 a3 a4 a5) 128).main_v108_8 a0 (ix3 b (row c l) q) = gated X (tc b c) (st X (tc b c).val) l q := by
  rw [gateArr_eq, stack_all a0 a1 a2 a3 a4 a5 a6]
  have e : hd ⟨q.val / 512, by omega⟩ ⟨q.val / 64 % 8, by omega⟩ = ⟨q.val / 64, by omega⟩ :=
    Fin.ext (by show 8 * (q.val / 512) + q.val / 64 % 8 = q.val / 64; omega)
  rw [e]
  rfl

/-- The result at row `l` of chunk `c` of sequence `b`. -/
theorem result_all (b : Fin 2) (c l : Fin 128) (q : Fin 1024) :
    R_main_v131 (seq (init a0 a1 a2 a3 a4 a5) 128) a0 a6 (ix2 ⟨128 * (128 * b.val + c.val) + l.val, by omega⟩ q) = out X (tc b c) l q := by
  rw [result_eq, normArr_eq]
  simp only [gate_all a0 a1 a2 a3 a4 a5 a6]
  rfl

end Cert.Ssd.Ref

end
-- ==== Proof.Tie.lean ====
/-
  The reference's result and the kernel's are the same array: both are `Cert.Ssd.out` at every row and column.
-/
module

public import proofs.«01_k».proof.Proof.KerState
public import proofs.«01_k».proof.Proof.RefResult

@[expose] public section

set_option maxRecDepth 16384

noncomputable section

namespace Cert.Ssd

open Idealize.ShloMosaic Idealize.ShloMosaic.TcCoe Idealize.SL.Sem

/-- The array that the reference computes from the kernel's arguments is the array that the kernel leaves. -/
theorem tie (m : (ℓ : Loc Cert.KernelIdeal.nD Cert.KernelIdeal.τ Cert.KernelIdeal.sig) → Buf (Elt Ideal) ℓ) (c : Dev Cert.KernelIdeal.nD) :
    (Cert.ReferenceIdeal.Step.R_main_v131 (Ref.seq (Cert.ReferenceIdeal.Step.init (m ((c : Thread Cert.KernelIdeal.nD Cert.KernelIdeal.τ).loc Cert.KernelIdeal.main_arg0))
        (m ((c : Thread Cert.KernelIdeal.nD Cert.KernelIdeal.τ).loc Cert.KernelIdeal.main_arg1)) (m ((c : Thread Cert.KernelIdeal.nD Cert.KernelIdeal.τ).loc Cert.KernelIdeal.main_arg2))
        (m ((c : Thread Cert.KernelIdeal.nD Cert.KernelIdeal.τ).loc Cert.KernelIdeal.main_arg3)) (m ((c : Thread Cert.KernelIdeal.nD Cert.KernelIdeal.τ).loc Cert.KernelIdeal.main_arg4))
        (m ((c : Thread Cert.KernelIdeal.nD Cert.KernelIdeal.τ).loc Cert.KernelIdeal.main_arg5))) 128)
      (m ((c : Thread Cert.KernelIdeal.nD Cert.KernelIdeal.τ).loc Cert.KernelIdeal.main_arg0))
      (m ((c : Thread Cert.KernelIdeal.nD Cert.KernelIdeal.τ).loc Cert.KernelIdeal.main_arg6)) : FVec Ideal ⟨2, ![32768, 1024]⟩ .f32)
    = Cert.KernelIdeal.Value.G9 m c := by
  funext i
  obtain ⟨r, q, rfl⟩ : ∃ (r : Fin 32768) (q : Fin 1024), i = ix2 r q := ⟨i 0, i 1, by funext a; fin_cases a <;> rfl⟩
  have e : r = (⟨128 * (128 * (⟨r.val / 16384, by omega⟩ : Fin 2).val + (⟨r.val / 128 % 128, by omega⟩ : Fin 128).val) + (⟨r.val % 128, by omega⟩ : Fin 128).val, by
      show 128 * (128 * (r.val / 16384) + r.val / 128 % 128) + r.val % 128 < 32768; omega⟩ : Fin 32768) :=
    Fin.ext (by show r.val = 128 * (128 * (r.val / 16384) + r.val / 128 % 128) + r.val % 128; omega)
  rw [e]
  refine (Ref.result_all _ _ _ _ _ _ _ _ _ _ q).trans ?_
  exact (Ker.result_all m c (tc ⟨r.val / 16384, by omega⟩ ⟨r.val / 128 % 128, by omega⟩) ⟨r.val % 128, by omega⟩ q).symm

end Cert.Ssd

end
-- ==== Proof.lean ====
/-
  The certificate: each program's frame from its generated run, and the kernel's value against the reference's.
-/
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.Reference3Ideal.Run
public import proofs.«01_k».proof.Proof.Gen.ReferenceIdeal.Run
public import proofs.«01_k».proof.Proof.Gen.ReferenceIdeal.Step
public import Idealize.ShloMosaic.Adequacy
public import Idealize.ShloMosaic.Init
public import Idealize.ShloMosaic.Lib.Quiescent
public import proofs.«01_k».proof.Proof.Merge.Frame
public import proofs.«01_k».proof.Proof.Merge.Tie
public import proofs.«01_k».proof.Proof.MmTie
public import proofs.«01_k».proof.Proof.RefSteps
public import proofs.«01_k».proof.Proof.Tie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's, over exact arithmetic: the kernel's run, the reference's run with its loop opened as a
    sequence of states, and the equation of the two arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Steps.run_iter (F := Ideal) m' ρ' (fun c => Cert.Ssd.Ref.seq (Cert.ReferenceIdeal.Steps.initState m' c)) (fun _ => rfl) (fun _ _ => rfl))
  rw [(h c).1, ← Cert.Ssd.tie m c]
  obtain ⟨h0, h1, h2, h3, h4, h5, h6⟩ := hagree c
  unfold Cert.ReferenceIdeal.Steps.initState
  rw [h0, h1, h2, h3, h4, h5, h6]

/-- The projection's two results are the same array, over exact arithmetic. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1, ← Cert.Mm.tie m c]
  obtain ⟨h0, h1⟩ := hagree c
  rw [h0, h1]
  rfl

/-- The layer's two results are the same array, over exact arithmetic. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1, Cert.Merge.Ref.res_eq, ← Cert.Merge.tie m c]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, (trivial : preserves_Kernel_KernelIdeal), algebraic_KernelIdeal_ReferenceIdeal, (trivial : preserves_Kernel2_Kernel2Ideal), algebraic_Kernel2Ideal_Reference2Ideal, (trivial : preserves_Kernel3_Kernel3Ideal), algebraic_Kernel3Ideal_Reference3Ideal⟩

end Cert.Proof

end
